-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 4096]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .f32) (main_arg1 : FVec F S2x128 .f32) (main_arg2 : FVec F S128x512 .f32) (main_arg3 : FVec F S128x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  main_v3
-- ==== Pre_finite_ReferenceIdeal.lean ====
abbrev S2x2048x4096 : Shape := ⟨3, ![2, 2048, 4096]⟩
abbrev S2x128 : Shape := ⟨2, ![2, 128]⟩
abbrev S128x4096 : Shape := ⟨2, ![128, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel

variable [Facts]

def fn {F : FTy → Type} [FloatOps F] (main_arg0 : FVec F S2x2048x4096 .f32) (main_arg1 : FVec F S2x128 .f32) (main_arg2 : FVec F S128x4096 .f32) (main_arg3 : FVec F S128x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  main_v3
-- ==== Kernel.lean ====
abbrev S2x2048x512 : Shape := ⟨3, ![2, 2048, 512]⟩
abbrev S2x128 : Shape := ⟨2, ![2, 128]⟩
abbrev S128x512 : Shape := ⟨2, ![128, 512]⟩
abbrev S4x8x4x512 : Shape := ⟨4, ![4, 8, 4, 512]⟩
abbrev S4 : Shape := ⟨1, ![4]⟩
abbrev S4x7 : Shape := ⟨2, ![4, 7]⟩
abbrev S_ : Shape := ⟨0, ![]⟩
abbrev S1 : Shape := ⟨1, ![1]⟩
abbrev S2x512x512 : Shape := ⟨3, ![2, 512, 512]⟩
abbrev S2x512 : Shape := ⟨2, ![2, 512]⟩
abbrev S1x1x2x512 : Shape := ⟨4, ![1, 1, 2, 512]⟩
abbrev S1x1 : Shape := ⟨2, ![1, 1]⟩
abbrev S1x1x4x512 : Shape := ⟨4, ![1, 1, 4, 512]⟩
abbrev S4x512 : Shape := ⟨2, ![4, 512]⟩
abbrev S1x8x4x512 : Shape := ⟨4, ![1, 8, 4, 512]⟩
abbrev S8x4x512 : Shape := ⟨3, ![8, 4, 512]⟩
abbrev S2x512x1 : Shape := ⟨3, ![2, 512, 1]⟩
abbrev S2x1x512 : Shape := ⟨3, ![2, 1, 512]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x2048x512, .f32⟩
  | .local _ .vmem, ⟨0, _⟩ => ⟨S2x128, .f32⟩
  | .local _ .vmem, ⟨1, _⟩ => ⟨S128x512, .f32⟩
  | .local _ .vmem, ⟨2, _⟩ => ⟨S128x512, .f32⟩
  | .local _ .vmem, ⟨3, _⟩ => ⟨S2x2048x512, .f32⟩
  | .local _ .vmem, ⟨4, _⟩ => ⟨S4x8x4x512, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v64 : BitVec 32 := Scalar.addi v2 c1_i32_70
  let c8_i32_71 : BitVec 32 := 8#32
  let v65 : BitVec 32 := Scalar.remsi v64 c8_i32_71
  let c1_i32_80 : BitVec 32 := 1#32
  let v66 : BitVec 32 := Scalar.muli v65 c1_i32_80
  let v67 : BitVec 32 := Scalar.addi c0_i32_81 v66
  v67.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_86 : BitVec 32 := 2#32
  let v76 : BitVec 32 := Scalar.addi v2 c2_i32_86
  let c8_i32_87 : BitVec 32 := 8#32
  let v77 : BitVec 32 := Scalar.remsi v76 c8_i32_87
  let c1_i32_96 : BitVec 32 := 1#32
  let v78 : BitVec 32 := Scalar.muli v77 c1_i32_96
  let v79 : BitVec 32 := Scalar.addi c0_i32_97 v78
  v79.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v88 : BitVec 32 := Scalar.addi v2 c3_i32_102
  let c8_i32_103 : BitVec 32 := 8#32
  let v89 : BitVec 32 := Scalar.remsi v88 c8_i32_103
  let c1_i32_112 : BitVec 32 := 1#32
  let v90 : BitVec 32 := Scalar.muli v89 c1_i32_112
  let v91 : BitVec 32 := Scalar.addi c0_i32_113 v90
  v91.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v100 : BitVec 32 := Scalar.addi v2 c4_i32_118
  let c8_i32_119 : BitVec 32 := 8#32
  let v101 : BitVec 32 := Scalar.remsi v100 c8_i32_119
  let c1_i32_128 : BitVec 32 := 1#32
  let v102 : BitVec 32 := Scalar.muli v101 c1_i32_128
  let v103 : BitVec 32 := Scalar.addi c0_i32_129 v102
  v103.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_134 : BitVec 32 := 5#32
  let v112 : BitVec 32 := Scalar.addi v2 c5_i32_134
  let c8_i32_135 : BitVec 32 := 8#32
  let v113 : BitVec 32 := Scalar.remsi v112 c8_i32_135
  let c1_i32_144 : BitVec 32 := 1#32
  let v114 : BitVec 32 := Scalar.muli v113 c1_i32_144
  let v115 : BitVec 32 := Scalar.addi c0_i32_145 v114
  v115.toNat
def k0_dev13 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_150 : BitVec 32 := 6#32
  let v124 : BitVec 32 := Scalar.addi v2 c6_i32_150
  let c8_i32_151 : BitVec 32 := 8#32
  let v125 : BitVec 32 := Scalar.remsi v124 c8_i32_151
  let c1_i32_160 : BitVec 32 := 1#32
  let v126 : BitVec 32 := Scalar.muli v125 c1_i32_160
  let v127 : BitVec 32 := Scalar.addi c0_i32_161 v126
  v127.toNat
def k0_dev14 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_166 : BitVec 32 := 7#32
  let v136 : BitVec 32 := Scalar.addi v2 c7_i32_166
  let c8_i32_167 : BitVec 32 := 8#32
  let v137 : BitVec 32 := Scalar.remsi v136 c8_i32_167
  let c1_i32_176 : BitVec 32 := 1#32
  let v138 : BitVec 32 := Scalar.muli v137 c1_i32_176
  let v139 : BitVec 32 := Scalar.addi c0_i32_177 v138
  v139.toNat
def k0_dev15 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v164 : BitVec 32 := Scalar.addi v2 c1_i32_200
  let c8_i32_201 : BitVec 32 := 8#32
  let v165 : BitVec 32 := Scalar.remsi v164 c8_i32_201
  let c1_i32_210 : BitVec 32 := 1#32
  let v166 : BitVec 32 := Scalar.muli v165 c1_i32_210
  let v167 : BitVec 32 := Scalar.addi c0_i32_211 v166
  v167.toNat
def k0_dev16 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_216 : BitVec 32 := 2#32
  let v176 : BitVec 32 := Scalar.addi v2 c2_i32_216
  let c8_i32_217 : BitVec 32 := 8#32
  let v177 : BitVec 32 := Scalar.remsi v176 c8_i32_217
  let c1_i32_226 : BitVec 32 := 1#32
  let v178 : BitVec 32 := Scalar.muli v177 c1_i32_226
  let v179 : BitVec 32 := Scalar.addi c0_i32_227 v178
  v179.toNat
def k0_dev17 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_232 : BitVec 32 := 3#32
  let v188 : BitVec 32 := Scalar.addi v2 c3_i32_232
  let c8_i32_233 : BitVec 32 := 8#32
  let v189 : BitVec 32 := Scalar.remsi v188 c8_i32_233
  let c1_i32_242 : BitVec 32 := 1#32
  let v190 : BitVec 32 := Scalar.muli v189 c1_i32_242
  let v191 : BitVec 32 := Scalar.addi c0_i32_243 v190
  v191.toNat
def k0_dev18 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_248 : BitVec 32 := 4#32
  let v200 : BitVec 32 := Scalar.addi v2 c4_i32_248
  let c8_i32_249 : BitVec 32 := 8#32
  let v201 : BitVec 32 := Scalar.remsi v200 c8_i32_249
  let c1_i32_258 : BitVec 32 := 1#32
  let v202 : BitVec 32 := Scalar.muli v201 c1_i32_258
  let v203 : BitVec 32 := Scalar.addi c0_i32_259 v202
  v203.toNat
def k0_dev19 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_264 : BitVec 32 := 5#32
  let v212 : BitVec 32 := Scalar.addi v2 c5_i32_264
  let c8_i32_265 : BitVec 32 := 8#32
  let v213 : BitVec 32 := Scalar.remsi v212 c8_i32_265
  let c1_i32_274 : BitVec 32 := 1#32
  let v214 : BitVec 32 := Scalar.muli v213 c1_i32_274
  let v215 : BitVec 32 := Scalar.addi c0_i32_275 v214
  v215.toNat
def k0_dev20 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_280 : BitVec 32 := 6#32
  let v224 : BitVec 32 := Scalar.addi v2 c6_i32_280
  let c8_i32_281 : BitVec 32 := 8#32
  let v225 : BitVec 32 := Scalar.remsi v224 c8_i32_281
  let c1_i32_290 : BitVec 32 := 1#32
  let v226 : BitVec 32 := Scalar.muli v225 c1_i32_290
  let v227 : BitVec 32 := Scalar.addi c0_i32_291 v226
  v227.toNat
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v236 : BitVec 32 := Scalar.addi v2 c7_i32_296
  let c8_i32_297 : BitVec 32 := 8#32
  let v237 : BitVec 32 := Scalar.remsi v236 c8_i32_297
  let c1_i32_306 : BitVec 32 := 1#32
  let v238 : BitVec 32 := Scalar.muli v237 c1_i32_306
  let v239 : BitVec 32 := Scalar.addi c0_i32_307 v238
  v239.toNat
def k0_dev22 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_331 : BitVec 32 := 1#32
  let v264 : BitVec 32 := Scalar.addi v2 c1_i32_331
  let c8_i32_332 : BitVec 32 := 8#32
  let v265 : BitVec 32 := Scalar.remsi v264 c8_i32_332
  let c1_i32_341 : BitVec 32 := 1#32
  let v266 : BitVec 32 := Scalar.muli v265 c1_i32_341
  let v267 : BitVec 32 := Scalar.addi c0_i32_342 v266
  v267.toNat
def k0_dev23 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_347 : BitVec 32 := 2#32
  let v276 : BitVec 32 := Scalar.addi v2 c2_i32_347
  let c8_i32_348 : BitVec 32 := 8#32
  let v277 : BitVec 32 := Scalar.remsi v276 c8_i32_348
  let c1_i32_357 : BitVec 32 := 1#32
  let v278 : BitVec 32 := Scalar.muli v277 c1_i32_357
  let v279 : BitVec 32 := Scalar.addi c0_i32_358 v278
  v279.toNat
def k0_dev24 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_363 : BitVec 32 := 3#32
  let v288 : BitVec 32 := Scalar.addi v2 c3_i32_363
  let c8_i32_364 : BitVec 32 := 8#32
  let v289 : BitVec 32 := Scalar.remsi v288 c8_i32_364
  let c1_i32_373 : BitVec 32 := 1#32
  let v290 : BitVec 32 := Scalar.muli v289 c1_i32_373
  let v291 : BitVec 32 := Scalar.addi c0_i32_374 v290
  v291.toNat
def k0_dev25 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_379 : BitVec 32 := 4#32
  let v300 : BitVec 32 := Scalar.addi v2 c4_i32_379
  let c8_i32_380 : BitVec 32 := 8#32
  let v301 : BitVec 32 := Scalar.remsi v300 c8_i32_380
  let c1_i32_389 : BitVec 32 := 1#32
  let v302 : BitVec 32 := Scalar.muli v301 c1_i32_389
  let v303 : BitVec 32 := Scalar.addi c0_i32_390 v302
  v303.toNat
def k0_dev26 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_395 : BitVec 32 := 5#32
  let v312 : BitVec 32 := Scalar.addi v2 c5_i32_395
  let c8_i32_396 : BitVec 32 := 8#32
  let v313 : BitVec 32 := Scalar.remsi v312 c8_i32_396
  let c1_i32_405 : BitVec 32 := 1#32
  let v314 : BitVec 32 := Scalar.muli v313 c1_i32_405
  let v315 : BitVec 32 := Scalar.addi c0_i32_406 v314
  v315.toNat
def k0_dev27 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_411 : BitVec 32 := 6#32
  let v324 : BitVec 32 := Scalar.addi v2 c6_i32_411
  let c8_i32_412 : BitVec 32 := 8#32
  let v325 : BitVec 32 := Scalar.remsi v324 c8_i32_412
  let c1_i32_421 : BitVec 32 := 1#32
  let v326 : BitVec 32 := Scalar.muli v325 c1_i32_421
  let v327 : BitVec 32 := Scalar.addi c0_i32_422 v326
  v327.toNat
def k0_dev28 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_427 : BitVec 32 := 7#32
  let v336 : BitVec 32 := Scalar.addi v2 c7_i32_427
  let c8_i32_428 : BitVec 32 := 8#32
  let v337 : BitVec 32 := Scalar.remsi v336 c8_i32_428
  let c1_i32_437 : BitVec 32 := 1#32
  let v338 : BitVec 32 := Scalar.muli v337 c1_i32_437
  let v339 : BitVec 32 := Scalar.addi c0_i32_438 v338
  v339.toNat
def k0_dev29 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_461 : BitVec 32 := 1#32
  let v364 : BitVec 32 := Scalar.addi v2 c1_i32_461
  let c8_i32_462 : BitVec 32 := 8#32
  let v365 : BitVec 32 := Scalar.remsi v364 c8_i32_462
  let c1_i32_471 : BitVec 32 := 1#32
  let v366 : BitVec 32 := Scalar.muli v365 c1_i32_471
  let v367 : BitVec 32 := Scalar.addi c0_i32_472 v366
  v367.toNat
def k0_dev30 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_477 : BitVec 32 := 2#32
  let v376 : BitVec 32 := Scalar.addi v2 c2_i32_477
  let c8_i32_478 : BitVec 32 := 8#32
  let v377 : BitVec 32 := Scalar.remsi v376 c8_i32_478
  let c1_i32_487 : BitVec 32 := 1#32
  let v378 : BitVec 32 := Scalar.muli v377 c1_i32_487
  let v379 : BitVec 32 := Scalar.addi c0_i32_488 v378
  v379.toNat
def k0_dev31 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_493 : BitVec 32 := 3#32
  let v388 : BitVec 32 := Scalar.addi v2 c3_i32_493
  let c8_i32_494 : BitVec 32 := 8#32
  let v389 : BitVec 32 := Scalar.remsi v388 c8_i32_494
  let c1_i32_503 : BitVec 32 := 1#32
  let v390 : BitVec 32 := Scalar.muli v389 c1_i32_503
  let v391 : BitVec 32 := Scalar.addi c0_i32_504 v390
  v391.toNat
def k0_dev32 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_509 : BitVec 32 := 4#32
  let v400 : BitVec 32 := Scalar.addi v2 c4_i32_509
  let c8_i32_510 : BitVec 32 := 8#32
  let v401 : BitVec 32 := Scalar.remsi v400 c8_i32_510
  let c1_i32_519 : BitVec 32 := 1#32
  let v402 : BitVec 32 := Scalar.muli v401 c1_i32_519
  let v403 : BitVec 32 := Scalar.addi c0_i32_520 v402
  v403.toNat
def k0_dev33 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_525 : BitVec 32 := 5#32
  let v412 : BitVec 32 := Scalar.addi v2 c5_i32_525
  let c8_i32_526 : BitVec 32 := 8#32
  let v413 : BitVec 32 := Scalar.remsi v412 c8_i32_526
  let c1_i32_535 : BitVec 32 := 1#32
  let v414 : BitVec 32 := Scalar.muli v413 c1_i32_535
  let v415 : BitVec 32 := Scalar.addi c0_i32_536 v414
  v415.toNat
def k0_dev34 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_541 : BitVec 32 := 6#32
  let v424 : BitVec 32 := Scalar.addi v2 c6_i32_541
  let c8_i32_542 : BitVec 32 := 8#32
  let v425 : BitVec 32 := Scalar.remsi v424 c8_i32_542
  let c1_i32_551 : BitVec 32 := 1#32
  let v426 : BitVec 32 := Scalar.muli v425 c1_i32_551
  let v427 : BitVec 32 := Scalar.addi c0_i32_552 v426
  v427.toNat
def k0_dev35 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_557 : BitVec 32 := 7#32
  let v436 : BitVec 32 := Scalar.addi v2 c7_i32_557
  let c8_i32_558 : BitVec 32 := 8#32
  let v437 : BitVec 32 := Scalar.remsi v436 c8_i32_558
  let c1_i32_567 : BitVec 32 := 1#32
  let v438 : BitVec 32 := Scalar.muli v437 c1_i32_567
  let v439 : BitVec 32 := Scalar.addi c0_i32_568 v438
  v439.toNat
abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x4096 : Shape := ⟨3, ![2, 2048, 4096]⟩
abbrev S2x128 : Shape := ⟨2, ![2, 128]⟩
abbrev S128x4096 : Shape := ⟨2, ![128, 4096]⟩
abbrev S_ : Shape := ⟨0, ![]⟩
abbrev S2x2048 : Shape := ⟨2, ![2, 2048]⟩
abbrev S2x2048x1 : Shape := ⟨3, ![2, 2048, 1]⟩
abbrev S2x4096 : Shape := ⟨2, ![2, 4096]⟩
abbrev S2x1x4096 : Shape := ⟨3, ![2, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .i32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x4096, .f32⟩
  | .hbm, ⟨35, _⟩ => ⟨S2x2048x4096, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x4096, .f32⟩
  | .hbm, ⟨41, _⟩ => ⟨S2x2048x4096, .f32⟩
  | .hbm, ⟨42, _⟩ => ⟨S2x4096, .f32⟩
  | .hbm, ⟨43, _⟩ => ⟨S2x4096, .f32⟩
  | .hbm, ⟨44, _⟩ => ⟨S2x1x4096, .f32⟩
  | .hbm, ⟨45, _⟩ => ⟨S_, .f32⟩
  | .hbm, ⟨46, _⟩ => ⟨S2x1x4096, .f32⟩
  | .hbm, ⟨47, _⟩ => ⟨S2x1x4096, .f32⟩
  | .hbm, ⟨48, _⟩ => ⟨S2x2048x4096, .f32⟩
  | .hbm, ⟨49, _⟩ => ⟨S2x2048x4096, .f32⟩
  | .hbm, ⟨50, _⟩ => ⟨S2x1x4096, .f32⟩
  | .hbm, ⟨51, _⟩ => ⟨S2x2048x4096, .f32⟩
  | .hbm, ⟨52, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Proto.lean ====
/-
# The protocol of the layer-norm kernel: cells, contents, schedule, levels

Eight devices hold a column slice of `x` each. A device cuts its slice into four row chunks; of each chunk it computes
the rows' sums and sums of squares (slot 7 of the chunk's communication buffer), sends that slot to the seven other
devices (its `e`-th transfer lands in slot `e` of the peer `e + 1` places up the ring), adds the eight slots and
normalises. Every semaphore of the launch is used for ONE round:

* the barrier cell of a device has seven duties of one unit; duty `d` is paid by the device `d + 1` places down the
  ring, which hands over its own landing slots for the waiting device's transfers, at any contents;
* an in-copy cell returns the chunk of `x` with the chunk's copy in local memory;
* a receive cell returns the landing slot, holding the sender's statistics;
* a send cell returns the share of slot 7 that the transfer reads;
* an out-copy cell returns the chunk of the result and its source.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

/-- The device `e + 1` places up the ring: where transfer `e` goes. -/
def peer (c : Dev nD) (e : Fin 7) : Dev nD := ⟨(c.val + e.val + 1) % 8, Nat.mod_lt _ (by decide)⟩
/-- The device whose statistics slot `k` of a device's communication buffer holds: `k + 1` places down, itself at `k = 7`. -/
def srcD (c : Dev nD) (k : Fin 8) : Dev nD := ⟨(c.val + 7 - k.val) % 8, Nat.mod_lt _ (by decide)⟩
/-- The transfer number from which the way back is taken. -/
def rev (e : Fin 7) : Fin 7 := ⟨6 - e.val, by omega⟩

theorem rev_rev (e : Fin 7) : rev (rev e) = e := by revert e; decide
theorem peer_rev (c : Dev nD) (e : Fin 7) : peer (peer c e) (rev e) = c := by revert c e; decide
theorem peer_rev' (c : Dev nD) (e : Fin 7) : peer (peer c (rev e)) e = c := by revert c e; decide
theorem srcD_peer (c : Dev nD) (e : Fin 7) : srcD (peer c e) e.castSucc = c := by revert c e; decide
theorem srcD_last (c : Dev nD) : srcD c 7 = c := by revert c; decide

/-- Number `j` of the 28 transfers: its chunk and its place in the chunk's seven. -/
def ij (j : Fin 28) : Fin 4 := ⟨j.val / 7, by omega⟩
def ej (j : Fin 28) : Fin 7 := ⟨j.val % 7, by omega⟩

/-! ## Rectangles and memrefs -/

theorem inb_ch (i : Fin 4) : ∀ a, (![0, 512 * i.val, 0] : Fin 3 → ℕ) a + S2x512x512.size a ≤ S2x2048x512.size a := by
  revert i; decide
theorem inb_sl (i : Fin 4) (k : Fin 8) : ∀ a, (![i.val, k.val, 0, 0] : Fin 4 → ℕ) a + S1x1x4x512.size a ≤ S4x8x4x512.size a := by
  revert i k; decide
theorem inb_hf (i : Fin 4) (h : Fin 2) : ∀ a, (![i.val, 7, 2 * h.val, 0] : Fin 4 → ℕ) a + S1x1x2x512.size a ≤ S4x8x4x512.size a := by
  revert i h; decide
theorem inb_cc (i : Fin 4) : ∀ a, (![i.val, 0, 0, 0] : Fin 4 → ℕ) a + S1x8x4x512.size a ≤ S4x8x4x512.size a := by
  revert i; decide

/-- Row chunk `i` of a device's slice; -/
abbrev chR (i : Fin 4) : Rect S2x2048x512 := Rect.unit (s := S2x2048x512) ![0, 512 * i.val, 0] S2x512x512.size (inb_ch i)
/-- slot `k` of chunk `i`'s communication buffer; -/
abbrev slR (i : Fin 4) (k : Fin 8) : Rect S4x8x4x512 := Rect.unit (s := S4x8x4x512) ![i.val, k.val, 0, 0] S1x1x4x512.size (inb_sl i k)
/-- one half of its slot 7: the sums (`h = 0`) or the sums of squares; -/
abbrev hfR (i : Fin 4) (h : Fin 2) : Rect S4x8x4x512 := Rect.unit (s := S4x8x4x512) ![i.val, 7, 2 * h.val, 0] S1x1x2x512.size (inb_hf i h)
/-- its eight slots. -/
abbrev ccR (i : Fin 4) : Rect S4x8x4x512 := Rect.unit (s := S4x8x4x512) ![i.val, 0, 0, 0] S1x8x4x512.size (inb_cc i)

abbrev xM : Memref sig .tc .hbm S2x2048x512 .f32 := Memref.whole main_arg0
abbrev yM : Memref sig .tc .hbm S2x2048x512 .f32 := Memref.whole main_v1
abbrev bM : Memref sig .tc .vmem S2x2048x512 .f32 := Memref.whole cc0_scratch0
abbrev cM : Memref sig .tc .vmem S4x8x4x512 .bf16 := Memref.whole cc0_scratch1

abbrev xC (i : Fin 4) : Memref sig .tc .hbm S2x512x512 .f32 := xM.slice (chR i) (fun _ => rfl)
abbrev yC (i : Fin 4) : Memref sig .tc .hbm S2x512x512 .f32 := yM.slice (chR i) (fun _ => rfl)
abbrev bC (i : Fin 4) : Memref sig .tc .vmem S2x512x512 .f32 := bM.slice (chR i) (fun _ => rfl)
abbrev cS (i : Fin 4) (k : Fin 8) : Memref sig .tc .vmem S4x512 .bf16 := (cM.slice (slR i k) (fun _ => rfl)).squeeze S4x512 squeezes_S1x1x4x512_S4x512

/-! ## Contents -/

def xA (c : Dev nD) : S2x2048x512.Idx → Elt F .f32 := m ((c : Thread nD τ).loc main_arg0)

/-- The `x` values of chunk `i` on device `c`. -/
def xs (c : Dev nD) (i : Fin 4) : Vec F S2x512x512 .f32 := bM.view.readAt (Elt F) (chR i).toLoadRect (xA m c)

/-- Where an index of the communication buffer lies in its half slot. -/
def hIdx (j : S4x8x4x512.Idx) : S1x1x2x512.Idx :=
  Fin.cons ⟨0, by decide⟩ (Fin.cons ⟨0, by decide⟩ (Fin.cons ⟨(j 2).val % 2, Nat.mod_lt _ (by decide)⟩ (Fin.cons (j 3) fun a => a.elim0)))

/-- The two statistics of chunk `i` of device `c`: the rows' sums and the rows' sums of squares. -/
def stat (c : Dev nD) (i : Fin 4) (r : ℕ) : FVec F S1x1x2x512 .bf16 :=
  if r / 2 = 0 then k0_pay1 (xs m c i) else k0_pay2 (xs m c i)

/-- What the communication buffer of device `c` holds once all has landed. -/
def commF (c : Dev nD) : S4x8x4x512.Idx → Elt F .bf16 := fun j => stat m (srcD c (j 1)) (j 0) (j 2).val (hIdx j)

/-- The eight slots of chunk `i`, as loaded. -/
def cs (c : Dev nD) (i : Fin 4) : Vec F S1x8x4x512 .bf16 := cM.view.readAt (Elt F) (ccR i).toLoadRect (commF m c)

/-- The three staged operands. -/
def tW (c : Dev nD) : (cc0_stg0_0 : Ref sig .tc).ty.Contents (Elt F) :=
  (win0_0.blk (0 : Fin 1)).view.read (Elt F) (m ((c : Thread nD τ).loc main_arg1))
def scW (c : Dev nD) : (cc0_stg1_0 : Ref sig .tc).ty.Contents (Elt F) :=
  (win0_1.blk (0 : Fin 1)).view.read (Elt F) (m ((c : Thread nD τ).loc main_arg2))
def shW (c : Dev nD) : (cc0_stg2_0 : Ref sig .tc).ty.Contents (Elt F) :=
  (win0_2.blk (0 : Fin 1)).view.read (Elt F) (m ((c : Thread nD τ).loc main_arg3))

/-- One plus the scale, and the shift. -/
def osc (c : Dev nD) : FVec F S2x512 .f32 := k0_pay10 (tW m c) (scW m c)
def shf (c : Dev nD) : FVec F S2x512 .f32 := k0_pay11 (tW m c) (shW m c)

/-- The result of chunk `i` on device `c`, -/
def outC (c : Dev nD) (i : Fin 4) : FVec F S2x512x512 .f32 := k0_pay19 (osc m c) (shf m c) (cs m c i) (xs m c i)

/-- the chunk and the place in it of a result index, -/
def chOf (j : S2x2048x512.Idx) : Fin 4 := ⟨(j 1).val / 512, Nat.div_lt_of_lt_mul (j 1).isLt⟩
def oIdx (j : S2x2048x512.Idx) : S2x512x512.Idx :=
  Fin.cons (j 0) (Fin.cons ⟨(j 1).val % 512, Nat.mod_lt _ (by decide)⟩ (Fin.cons (j 2) fun a => a.elim0))

/-- and the whole result. -/
def outF (c : Dev nD) : S2x2048x512.Idx → Elt F .f32 := fun j => outC m c (chOf j) (oIdx j)

/-! ## Points-tos -/

def xP (c : Dev nD) (i : Fin 4) (f : S2x2048x512.Idx → Elt F .f32) : sProp 𝕄 :=
  (xC i).view.loc (c : Thread nD τ) ↦[(xC i).view.set]{fullShare} f
def yP (c : Dev nD) (i : Fin 4) (f : S2x2048x512.Idx → Elt F .f32) : sProp 𝕄 :=
  (yC i).view.loc (c : Thread nD τ) ↦[(yC i).view.set]{fullShare} f
def bP (c : Dev nD) (i : Fin 4) (f : S2x2048x512.Idx → Elt F .f32) : sProp 𝕄 :=
  (bC i).view.loc (c : Thread nD τ) ↦[(bC i).view.set]{fullShare} f
def cP (c : Dev nD) (i : Fin 4) (k : Fin 8) (q : PosShare TreeShare) (f : S4x8x4x512.Idx → Elt F .bf16) : sProp 𝕄 :=
  (cS i k).view.loc (c : Thread nD τ) ↦[(cS i k).view.set]{q} f

/-- Share `k` of the eight equal shares of slot 7: transfer `k` reads at it, number 7 stays. -/
abbrev lf (k : Fin 8) : PosShare TreeShare := ShareLeaves.leaf 3 fullShare k

omit [FloatOps F] in
instance xP_storable (c : Dev nD) (i) (f) : BI.Storable (upEmb : UEmb _ 𝕄) (xP (F := F) c i f) := by unfold xP; infer_instance
omit [FloatOps F] in
instance yP_storable (c : Dev nD) (i) (f) : BI.Storable (upEmb : UEmb _ 𝕄) (yP (F := F) c i f) := by unfold yP; infer_instance
omit [FloatOps F] in
instance bP_storable (c : Dev nD) (i) (f) : BI.Storable (upEmb : UEmb _ 𝕄) (bP (F := F) c i f) := by unfold bP; infer_instance
omit [FloatOps F] in
instance cP_storable (c : Dev nD) (i) (k) (q) (f) : BI.Storable (upEmb : UEmb _ 𝕄) (cP (F := F) c i k q f) := by unfold cP; infer_instance

/-! ## The cells -/

/-- A device's cells: the barrier; the in-copies, the out-copies, the transfers' send and receive cells. -/
abbrev Own : Type := Fin 4 ⊕ Fin 4 ⊕ Fin 28 ⊕ Fin 28
abbrev Kd : Type := Unit ⊕ Own

abbrev kBar : Kd := .inl ()
abbrev kIn (i : Fin 4) : Kd := .inr (.inl i)
abbrev kOut (i : Fin 4) : Kd := .inr (.inr (.inl i))
abbrev kSnd (j : Fin 28) : Kd := .inr (.inr (.inr (.inl j)))
abbrev kRcv (j : Fin 28) : Kd := .inr (.inr (.inr (.inr j)))

abbrev barS : Sem sig := (SemArray.scalar (sig.barrier 0 rfl) : Sems sig S_).sem

def osem : Own → SemLoc sig
  | .inl i => .dma ⟨3 + i.val, Nat.lt_of_lt_of_le (Nat.add_lt_add_left i.isLt 3) (by decide)⟩
  | .inr (.inl i) => .dma ⟨7 + i.val, Nat.lt_of_lt_of_le (Nat.add_lt_add_left i.isLt 7) (by decide)⟩
  | .inr (.inr (.inl j)) => .dma ⟨11 + j.val, Nat.lt_of_lt_of_le (Nat.add_lt_add_left j.isLt 11) (by decide)⟩
  | .inr (.inr (.inr j)) => .dma ⟨39 + j.val, Nat.lt_of_lt_of_le (Nat.add_lt_add_left j.isLt 39) (by decide)⟩

def csem : Kd → SemLoc sig
  | .inl _ => .reg barS
  | .inr o => osem o

theorem osem_injective : Function.Injective osem := by
  intro a b h
  rcases a with a | a | a | a <;> rcases b with b | b | b | b <;>
    simp only [osem, SemLoc.dma.injEq, Fin.mk.injEq] at h <;> first | omega | (have : a = b := by omega) <;> subst this <;> rfl

theorem osem_ne_bar (o : Own) : osem o ≠ .reg barS := by
  rcases o with a | a | a | a <;> exact fun h => by cases h

theorem csem_injective : Function.Injective csem := by
  intro a b h
  rcases a with a | a <;> rcases b with b | b
  · rfl
  · exact absurd h.symm (osem_ne_bar b)
  · exact absurd h (osem_ne_bar a)
  · exact congrArg _ (osem_injective h)

abbrev kc (c : Dev nD) (k : Kd) : GSem nD τ sig := ((c : Thread nD τ), csem k)
abbrev kcell (ck : Dev nD × Kd) : GSem nD τ sig := kc ck.1 ck.2

theorem kcell_injective : Function.Injective kcell := by
  rintro ⟨c, k⟩ ⟨c', k'⟩ h
  have h1 : c = c' := congrArg (fun g : GSem nD τ sig => g.1.1) h
  have h2 : k = k' := csem_injective (congrArg Prod.snd h)
  subst h1; subst h2; rfl

/-- The kind of a cell. -/
def kind (g : GSem nD τ sig) : Option Kd := if h : g.1.2 = .tc ∧ ∃ k, csem k = g.2 then some (Classical.choose h.2) else none

theorem kind_kc (c : Dev nD) (k : Kd) : kind (kc c k) = some k := by
  have h : (kc c k).1.2 = .tc ∧ ∃ k', csem k' = (kc c k).2 := ⟨rfl, k, rfl⟩
  unfold kind; rw [dif_pos h]
  exact congrArg some (csem_injective (Classical.choose_spec h.2))

theorem kind_stage (c : Dev nD) (q : DmaSem sig) (hq : q.val < 3) : kind ((c : Thread nD τ), .dma q) = none := by
  unfold kind; rw [dif_neg]
  rintro ⟨-, k, hk⟩
  rcases k with k | k | k | k | k <;> simp only [csem, osem, SemLoc.dma.injEq, Fin.ext_iff, reduceCtorEq] at hk <;> omega

/-! ## The schedule -/

/-- A copy's credit, by kind. -/
def amt : Kd → ℕ
  | .inl _ => 1
  | .inr (.inl i) => (bC i).view.dmaCredit
  | .inr (.inr (.inl i)) => (yC i).view.dmaCredit
  | .inr (.inr (.inr (.inl j))) => (cS (ij j) (ej j).castSucc).view.dmaCredit
  | .inr (.inr (.inr (.inr j))) => (cS (ij j) (ej j).castSucc).view.dmaCredit

theorem amt_pos (k : Kd) : 0 < amt k := by
  rcases k with k | k | k | k | k
  · exact Nat.one_pos
  all_goals exact View.dmaCredit_pos _ (by decide)

def dut : Kd → Finset (Fin 7)
  | .inl _ => Finset.univ
  | .inr _ => {0}

/-- The landing slots for transfer `e` of device `c`, on the device they land on. -/
def land (c : Dev nD) (e : Fin 7) : sProp 𝕄 := bigSep Finset.univ fun i : Fin 4 => iprop(∃ f, cP (peer c e) i e.castSucc fullShare f)

def pay (c : Dev nD) : Kd → Fin 7 → sProp 𝕄
  | .inl _, d => land c (rev d)
  | .inr (.inl i), _ => iprop(xP c i (xA m c) ∗ bP c i (xA m c))
  | .inr (.inr (.inl i)), _ => iprop(bP c i (outF m c) ∗ yP c i (outF m c))
  | .inr (.inr (.inr (.inl j))), _ => cP c (ij j) 7 (lf (ej j).castSucc) (commF m c)
  | .inr (.inr (.inr (.inr j))), _ => cP c (ij j) (ej j).castSucc fullShare (commF m c)

instance pay_storable (c : Dev nD) (k : Kd) (d : Fin 7) : BI.Storable (upEmb : UEmb _ 𝕄) (pay (F := F) m c k d) := by
  rcases k with k | k | k | k | k <;> simp only [pay] <;> (try unfold land) <;> infer_instance

def Rd : Rounds.Schedule (GSem nD τ sig) (Fin 7) 𝕄 where
  duties g r := if r = 0 then (kind g).elim ∅ dut else ∅
  unitless _ := False
  amount g _ _ := (kind g).elim 1 amt
  payload g _ d := (kind g).elim iprop(emp) fun k => pay m g.1.1 k d
  amount_pos g _ _ _ := by
    cases kind g with
    | none => exact Nat.one_pos
    | some k => exact amt_pos k

instance Rd_payload_storable (g : GSem nD τ sig) (r : ℕ) (d : Fin 7) :
    BI.Storable (upEmb : UEmb _ 𝕄) ((Rd (F := F) m).payload g r d) := by
  show BI.Storable upEmb ((kind g).elim iprop(emp) fun k => pay m g.1.1 k d)
  cases kind g with
  | none => dsimp only [Option.elim]; infer_instance
  | some k => dsimp only [Option.elim]; infer_instance

theorem Rd_duties (c : Dev nD) (k : Kd) : (Rd (F := F) m).duties (kc c k) 0 = dut k := by
  dsimp only [Rd]; rw [if_pos rfl, kind_kc]; rfl
theorem Rd_duties_later (g : GSem nD τ sig) : ∀ r, 1 ≤ r → (Rd (F := F) m).duties g r = ∅ :=
  fun r hr => by dsimp only [Rd]; rw [if_neg (by omega)]
theorem Rd_amount (c : Dev nD) (k : Kd) (d : Fin 7) : (Rd (F := F) m).amount (kc c k) 0 d = amt k := by
  dsimp only [Rd]; rw [kind_kc]; rfl
theorem Rd_payload (c : Dev nD) (k : Kd) (d : Fin 7) : (Rd (F := F) m).payload (kc c k) 0 d = pay m c k d := by
  dsimp only [Rd]; rw [kind_kc]; rfl

theorem Rd_expect_bar (c : Dev nD) : (Rd (F := F) m).expect (kc c kBar) 0 = 7 := by
  unfold Schedule.expect Schedule.amountOf
  rw [Rd_duties, Finset.sum_congr rfl fun d _ => Rd_amount m c kBar d]
  rfl
theorem Rd_expect (c : Dev nD) (o : Own) : (Rd (F := F) m).expect (kc c (.inr o)) 0 = amt (.inr o) := by
  unfold Schedule.expect Schedule.amountOf
  rw [Rd_duties, Finset.sum_congr rfl fun d _ => Rd_amount m c (.inr o) d]
  exact Finset.sum_singleton _ _

theorem Rd_rest (c : Dev nD) (o : Own) :
    bigSep ((Rd (F := F) m).duties (kc c (.inr o)) 0 \ ∅) (fun d => (Rd (F := F) m).payload (kc c (.inr o)) 0 d) = pay m c (.inr o) 0 := by
  rw [Finset.sdiff_empty, Rd_duties]
  show bigSep {0} _ = _
  rw [bigSep_singleton, Rd_payload]
theorem Rd_rest_bar (c : Dev nD) :
    bigSep ((Rd (F := F) m).duties (kc c kBar) 0 \ ∅) (fun d => (Rd (F := F) m).payload (kc c kBar) 0 d)
      = bigSep Finset.univ fun d : Fin 7 => (land c (rev d) : sProp 𝕄) := by
  rw [Finset.sdiff_empty, Rd_duties]
  exact bigSep_congr fun d _ => Rd_payload m c kBar d

/-! ## What a device owes; levels -/

/-- After `s` signals and `j` transfers. -/
def owed (c : Dev nD) (s j : ℕ) : CellTallies nD τ sig Unit :=
  (∑ d ∈ Ring.rangeSet 7 s 7, tallyAt (kc (peer c d) kBar) () 1)
    + ∑ b ∈ Ring.rangeSet 28 j 28, tallyAt (kc (peer c (ej b)) (kRcv b)) () (amt (kRcv b))

def L (g : GSem nD τ sig) : Finset Unit := if g.1.2 = .tc then {()} else ∅
/-- Barrier cells at 1, receive cells at 2, the rest at 0. -/
def lvK : Kd → ℕ
  | .inl _ => 1
  | .inr (.inr (.inr (.inr _))) => 2
  | _ => 0
def lv (g : GSem nD τ sig) (_ : Unit) : ℕ := (kind g).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kc (c : Dev nD) (k : Kd) : lv (kc c k) () = lvK k := by unfold lv; rw [kind_kc]; rfl
theorem lv_stage (c : Dev nD) (q : DmaSem sig) (hq : q.val < 3) : lv ((c : Thread nD τ), .dma q) () = 0 := by
  unfold lv; rw [kind_stage c q hq]; rfl

/-- What is owed is owed to barrier cells, while signals are left, and to receive cells. -/
theorem owed_pos {c : Dev nD} {s j : ℕ} {g : GSem nD τ sig} {u : Unit} (h : 0 < owed c s j g u) :
    (s < 7 ∧ ∃ c', g = kc c' kBar) ∨ (j < 28 ∧ ∃ c' b, g = kc c' (kRcv b)) := by
  unfold owed at h
  rw [Pi.add_apply, Finsupp.add_apply] at h
  by_contra hn
  rw [not_or] at hn
  have h1 : (∑ d ∈ Ring.rangeSet 7 s 7, tallyAt (kc (peer c d) kBar) () 1 : CellTallies nD τ sig Unit) g u = 0 := by
    rw [Finset.sum_apply, Finsupp.finset_sum_apply]
    refine Finset.sum_eq_zero fun d hd => ?_
    rw [tallyAt_apply, if_neg]
    rintro ⟨h1, -⟩
    have := (Ring.mem_rangeSet _ _ _).mp hd
    exact hn.1 ⟨by omega, _, h1⟩
  have h2 : (∑ b ∈ Ring.rangeSet 28 j 28, tallyAt (kc (peer c (ej b)) (kRcv b)) () (amt (kRcv b)) : CellTallies nD τ sig Unit) g u = 0 := by
    rw [Finset.sum_apply, Finsupp.finset_sum_apply]
    refine Finset.sum_eq_zero fun d hd => ?_
    rw [tallyAt_apply, if_neg]
    rintro ⟨h1, -⟩
    have := (Ring.mem_rangeSet _ _ _).mp hd
    exact hn.2 ⟨by omega, _, _, h1⟩
  omega

theorem owed_last (c : Dev nD) : owed c 7 28 = 0 := by
  unfold owed; rw [Ring.rangeSet_empty le_rfl, Ring.rangeSet_empty le_rfl, Finset.sum_empty, Finset.sum_empty, add_zero]

theorem owed_signal (c : Dev nD) (d : Fin 7) (j : ℕ) : owed c d.val j = owed c (d.val + 1) j + tallyAt (kc (peer c d) kBar) () 1 := by
  unfold owed
  rw [Ring.rangeSet_head d.isLt d.isLt, Finset.sum_insert (Ring.head_not_mem_rangeSet _)]
  exact add_rotate _ _ _

theorem owed_send (c : Dev nD) (s : ℕ) (j : Fin 28) :
    owed c s j.val = owed c s (j.val + 1) + tallyAt (kc (peer c (ej j)) (kRcv j)) () (amt (kRcv j)) := by
  unfold owed
  rw [Ring.rangeSet_head j.isLt j.isLt, Finset.sum_insert (Ring.head_not_mem_rangeSet _)]
  exact (congrArg _ (add_comm _ _)).trans (add_assoc _ _ _).symm

/-- A device may wait on a cell at a level below everything it owes. -/
theorem mayWait_of (c : Dev nD) (sm : SemLoc sig) (s j n : ℕ) (hn : lv ((c : Thread nD τ), sm) () ≤ n)
    (hs : s < 7 → n < 1) (hj : j < 28 → n < 2) :
    (levAts L lv : sProp 𝕄) ⊢ MayWait (c : Thread nD τ) sm () (owed c s j) :=
  MayOwe.of_cut (L := L) (lev := lv) n (fun p hp => by rw [Finset.mem_singleton.mp hp, L_tc]; exact Finset.mem_singleton_self _)
    (fun g u hg => by
      rcases owed_pos hg with ⟨-, c', rfl⟩ | ⟨-, c', b, rfl⟩ <;> exact Finset.mem_singleton_self _)
    (fun p hp => by rw [Finset.mem_singleton.mp hp]; exact hn)
    (fun g u hg => by
      rcases owed_pos hg with ⟨h, c', rfl⟩ | ⟨h, c', b, rfl⟩
      · rw [lv_kc]; exact hs h
      · rw [lv_kc]; exact hj h)

end Cert.LN

end
-- ==== Proof.Views.lean ====
/-
# The pieces of the buffers, and what is written to them

The chunks of the three large buffers and the slots of the communication buffer are disjoint and cover; what a copy or
a store leaves in a piece is the piece of the contents named in `Proto`.
-/
module

public import proofs.«01_k».proof.Proof.Proto

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the copies leave -/

/-- The chunk of `x` copied into local memory; -/
theorem bP_landed (c : Dev nD) (i : Fin 4) (f fd : S2x2048x512.Idx → Elt F .f32) :
    ((bC i).view.loc (c : Thread nD τ) ↦[(bC i).view.set]{fullShare} ((bC i).view.write (Elt F) fd ((xC i).view.read (Elt F) f) Finset.univ) : sProp 𝕄)
      = bP c i f := by
  unfold bP
  refine pointsTo_congr fun j hj => ?_
  obtain ⟨k, -, rfl⟩ := Finset.mem_map.mp hj
  rw [View.write_emb_of_mem _ _ (Finset.mem_univ k), View.read_apply, cast_cast, cast_eq]
  rfl

/-- the chunk of the result copied out; -/
theorem yP_landed (c : Dev nD) (i : Fin 4) (f fd : S2x2048x512.Idx → Elt F .f32) :
    ((yC i).view.loc (c : Thread nD τ) ↦[(yC i).view.set]{fullShare} ((yC i).view.write (Elt F) fd ((bC i).view.read (Elt F) f) Finset.univ) : sProp 𝕄)
      = yP c i f := by
  unfold yP
  refine pointsTo_congr fun j hj => ?_
  obtain ⟨k, -, rfl⟩ := Finset.mem_map.mp hj
  rw [View.write_emb_of_mem _ _ (Finset.mem_univ k), View.read_apply, cast_cast, cast_eq]
  rfl

/-! ## What the stores leave -/

/-- A place of slot 7 in its half. -/
theorem half_emb (i : Fin 4) (h : Fin 2) (j : S4x8x4x512.Idx) (h0 : (j 0).val = i.val) (h1 : (j 1).val = 7) (h2 : (j 2).val / 2 = h.val) :
    (cM.access (hfR i h)).emb (hIdx j) = j := by
  funext a
  apply Fin.ext
  match a with
  | ⟨0, _⟩ => show i.val + 1 * 0 = (j 0).val; omega
  | ⟨1, _⟩ => show 7 + 1 * 0 = (j 1).val; omega
  | ⟨2, _⟩ => show 2 * h.val + 1 * ((j 2).val % 2) = (j 2).val; omega
  | ⟨3, _⟩ => show 0 + 1 * (j 3).val = (j 3).val; omega

theorem set_cS (i : Fin 4) (k : Fin 8) : (cS i k).view.set = (slR i k).set := by
  show ((View.slice (View.whole cc0_scratch1) (slR i k)).reshape S4x512 _).set = _
  rw [View.set_reshape]; exact View.set_slice_whole _ _

theorem mem_cS {i : Fin 4} {k : Fin 8} {j : S4x8x4x512.Idx} (h : j ∈ (cS i k).view.set) : (j 0).val = i.val ∧ (j 1).val = k.val := by
  rw [set_cS] at h
  have h := Rect.mem_set_unit.mp h
  have h0 : i.val ≤ (j 0).val ∧ (j 0).val < i.val + 1 := h 0
  have h1 : k.val ≤ (j 1).val ∧ (j 1).val < k.val + 1 := h 1
  omega

theorem mem_cS_iff {i : Fin 4} {k : Fin 8} {j : S4x8x4x512.Idx} : j ∈ (cS i k).view.set ↔ (j 0).val = i.val ∧ (j 1).val = k.val := by
  refine ⟨mem_cS, fun h => ?_⟩
  rw [set_cS]
  refine Rect.mem_set_unit.mpr fun a => ?_
  have h2 := (j 2).isLt
  have h3 := (j 3).isLt
  match a with
  | ⟨0, _⟩ => show i.val ≤ (j 0).val ∧ (j 0).val < i.val + 1; omega
  | ⟨1, _⟩ => show k.val ≤ (j 1).val ∧ (j 1).val < k.val + 1; omega
  | ⟨2, _⟩ => exact ⟨Nat.zero_le _, h2⟩
  | ⟨3, _⟩ => exact ⟨Nat.zero_le _, h3⟩

/-- A place in slot `k` and the same place in slot `k'`. -/
theorem slot_emb (i : Fin 4) (k : Fin 8) (y : S4x512.Idx) :
    ((cS i k).view.emb y 0 = i ∧ (cS i k).view.emb y 1 = k)
      ∧ ∀ k' : Fin 8, ((cS i k).view.emb y 2).val = ((cS i k').view.emb y 2).val ∧ (cS i k).view.emb y 3 = (cS i k').view.emb y 3 := by
  have h := mem_cS (View.emb_mem_set (cS i k).view y)
  exact ⟨⟨Fin.ext h.1, Fin.ext h.2⟩, fun k' => ⟨rfl, rfl⟩⟩

/-- The statistics of device `c` landed in slot `e` of the peer `e + 1` places up. -/
theorem cP_landed (c : Dev nD) (i : Fin 4) (e : Fin 7) (fd : S4x8x4x512.Idx → Elt F .bf16) :
    ((cS i e.castSucc).view.loc (peer c e : Thread nD τ) ↦[(cS i e.castSucc).view.set]{fullShare}
        ((cS i e.castSucc).view.write (Elt F) fd ((cS i 7).view.read (Elt F) (commF m c)) Finset.univ) : sProp 𝕄)
      = cP (peer c e) i e.castSucc fullShare (commF m (peer c e)) := by
  unfold cP
  refine pointsTo_congr fun j hj => ?_
  obtain ⟨k, -, rfl⟩ := Finset.mem_map.mp hj
  rw [View.write_emb_of_mem _ _ (Finset.mem_univ k), View.read_apply, cast_cast, cast_eq]
  obtain ⟨⟨h0, h1⟩, h2⟩ := slot_emb i e.castSucc k
  obtain ⟨⟨h0', h1'⟩, -⟩ := slot_emb i 7 k
  obtain ⟨h2, h3⟩ := h2 7
  have hI : hIdx ((cS i 7).view.emb k) = hIdx ((cS i e.castSucc).view.emb k) := rfl
  show stat m (srcD c ((cS i 7).view.emb k 1)) ((cS i 7).view.emb k 0) ((cS i 7).view.emb k 2).val (hIdx ((cS i 7).view.emb k))
    = stat m (srcD (peer c e) ((cS i e.castSucc).view.emb k 1)) ((cS i e.castSucc).view.emb k 0) ((cS i e.castSucc).view.emb k 2).val
        (hIdx ((cS i e.castSucc).view.emb k))
  rw [h0, h1, h0', h1', ← h2, srcD_peer, srcD_last, hI]

theorem half_sub (i : Fin 4) (h : Fin 2) : (cM.access (hfR i h)).set ⊆ (cS i 7).view.set := by
  intro j hj
  have hj' : j ∈ (hfR i h).set := by
    rw [show (cM.access (hfR i h)).set = (hfR i h).set from View.set_slice_whole _ _] at hj; exact hj
  have hj' := Rect.mem_set_unit.mp hj'
  rw [mem_cS_iff]
  have h0 : i.val ≤ (j 0).val ∧ (j 0).val < i.val + 1 := hj' 0
  have h1 : 7 ≤ (j 1).val ∧ (j 1).val < 7 + 1 := hj' 1
  exact ⟨by omega, by show (j 1).val = 7; omega⟩

/-- The two halves stored into slot 7. -/
theorem cP_stored (c : Dev nD) (i : Fin 4) (f : S4x8x4x512.Idx → Elt F .bf16) :
    ((cS i 7).view.loc (c : Thread nD τ) ↦[(cS i 7).view.set]{fullShare}
        ((cM.access (hfR i 1)).write (Elt F) ((cM.access (hfR i 0)).write (Elt F) f (k0_pay1 (xs m c i)) Finset.univ) (k0_pay2 (xs m c i)) Finset.univ) : sProp 𝕄)
      = cP c i 7 fullShare (commF m c) := by
  unfold cP
  refine pointsTo_congr fun j hj => ?_
  have hj' := mem_cS_iff.mp hj
  have h7 : (j 1).val = 7 := hj'.2
  have h3 : (j 2).val < 4 := (j 2).isLt
  have hsrc : srcD c (j 1) = c := by rw [show j 1 = (7 : Fin 8) from Fin.ext h7]; exact srcD_last c
  have hi : j 0 = i := Fin.ext hj'.1
  show _ = stat m (srcD c (j 1)) (j 0) (j 2).val (hIdx j)
  rw [hsrc, hi]
  by_cases h : (j 2).val / 2 = 0
  · have e := half_emb i 0 j hj'.1 h7 h
    rw [View.write_of_not_mem]
    · refine ((congrArg (View.write (Elt F) (cM.access (hfR i 0)) _ _ _) e).symm.trans (View.write_emb_of_mem _ _ (Finset.mem_univ _))).trans ?_
      unfold stat; rw [if_pos h]; rfl
    · rw [View.setOn_univ, show (cM.access (hfR i 1)).set = (hfR i 1).set from View.set_slice_whole _ _]
      intro hm
      have h2 : 2 * 1 ≤ (j 2).val ∧ (j 2).val < 2 * 1 + 2 := Rect.mem_set_unit.mp hm 2
      omega
  · have e := half_emb i 1 j hj'.1 h7 (by show (j 2).val / 2 = 1; omega)
    refine ((congrArg (View.write (Elt F) (cM.access (hfR i 1)) _ _ _) e).symm.trans (View.write_emb_of_mem _ _ (Finset.mem_univ _))).trans ?_
    unfold stat; rw [if_neg h]; rfl

theorem set_bC (i : Fin 4) : (bC i).view.set = (chR i).set := View.set_slice_whole _ _
theorem mem_ch {i : Fin 4} {j : S2x2048x512.Idx} (h : j ∈ (chR i).set) : (j 1).val / 512 = i.val := by
  have h1 : 512 * i.val ≤ (j 1).val ∧ (j 1).val < 512 * i.val + 512 := Rect.mem_set_unit.mp h 1
  omega

/-- A place of the result in its chunk. -/
theorem out_emb (i : Fin 4) (j : S2x2048x512.Idx) (h : (j 1).val / 512 = i.val) : (bM.access (chR i)).emb (oIdx j) = j := by
  funext a
  apply Fin.ext
  match a with
  | ⟨0, _⟩ => show 0 + 1 * (j 0).val = (j 0).val; omega
  | ⟨1, _⟩ => show 512 * i.val + 1 * ((j 1).val % 512) = (j 1).val; omega
  | ⟨2, _⟩ => show 0 + 1 * (j 2).val = (j 2).val; omega

/-- A chunk of the result stored over the chunk of `x`. -/
theorem bP_stored (c : Dev nD) (i : Fin 4) (f : S2x2048x512.Idx → Elt F .f32) :
    ((bC i).view.loc (c : Thread nD τ) ↦[(bC i).view.set]{fullShare} ((bM.access (chR i)).write (Elt F) f (outC m c i) Finset.univ) : sProp 𝕄)
      = bP c i (outF m c) := by
  unfold bP
  refine pointsTo_congr fun j hj => ?_
  have h := mem_ch (show j ∈ (chR i).set from set_bC i ▸ hj)
  have e := out_emb i j h
  have hi : chOf j = i := Fin.ext h
  show _ = outC m c (chOf j) (oIdx j)
  rw [hi]
  exact (congrArg (View.write (Elt F) (bM.access (chR i)) _ _ _) e).symm.trans (View.write_emb_of_mem _ _ (Finset.mem_univ _))

/-! ## Whole buffers as their pieces -/

theorem ch_disjoint (b b' : Fin 4) (h : b ≠ b') : Disjoint (chR b).set (chR b').set :=
  Ring.lead_disjoint (s := S2x2048x512) (1 : Fin 3) 512 (fun b : Fin 4 => ![0, 512 * b.val, 0]) S2x512x512.size inb_ch (fun _ => rfl) rfl b b' h
theorem ch_cover : Finset.univ.biUnion (fun b : Fin 4 => (chR b).set) = Finset.univ :=
  Ring.lead_cover (s := S2x2048x512) (1 : Fin 3) 512 (fun b : Fin 4 => ![0, 512 * b.val, 0]) S2x512x512.size inb_ch (fun _ => rfl) (by decide) rfl (by decide) rfl

theorem x_chunks (c : Dev nD) (f : S2x2048x512.Idx → Elt F .f32) :
    (((c : Thread nD τ).loc main_arg0) ↦{fullShare} f : sProp 𝕄) = bigSep Finset.univ fun i : Fin 4 => xP c i f := by
  have h := Ring.pointsTo_blocks (Ix := Unit) (Name := ℕ) (U := UU) (Lvl := ℕ) (Val := Elt F) (ℓ := (c : Thread nD τ).loc main_arg0)
    (fun i : Fin 4 => (xC i).view.set)
    (fun b b' hb => by rw [show (xC b).view.set = (chR b).set from View.set_slice_whole _ _, show (xC b').view.set = (chR b').set from View.set_slice_whole _ _]; exact ch_disjoint b b' hb)
    (by rw [show (fun i : Fin 4 => (xC i).view.set) = fun i => (chR i).set from funext fun i => View.set_slice_whole _ _]; exact ch_cover) (q := fullShare) f
  exact h
theorem y_chunks (c : Dev nD) (f : S2x2048x512.Idx → Elt F .f32) :
    (((c : Thread nD τ).loc main_v1) ↦{fullShare} f : sProp 𝕄) = bigSep Finset.univ fun i : Fin 4 => yP c i f := by
  have h := Ring.pointsTo_blocks (Ix := Unit) (Name := ℕ) (U := UU) (Lvl := ℕ) (Val := Elt F) (ℓ := (c : Thread nD τ).loc main_v1)
    (fun i : Fin 4 => (yC i).view.set)
    (fun b b' hb => by rw [show (yC b).view.set = (chR b).set from View.set_slice_whole _ _, show (yC b').view.set = (chR b').set from View.set_slice_whole _ _]; exact ch_disjoint b b' hb)
    (by rw [show (fun i : Fin 4 => (yC i).view.set) = fun i => (chR i).set from funext fun i => View.set_slice_whole _ _]; exact ch_cover) (q := fullShare) f
  exact h
theorem b_chunks (c : Dev nD) (f : S2x2048x512.Idx → Elt F .f32) :
    (((c : Thread nD τ).loc cc0_scratch0) ↦{fullShare} f : sProp 𝕄) = bigSep Finset.univ fun i : Fin 4 => bP c i f := by
  have h := Ring.pointsTo_blocks (Ix := Unit) (Name := ℕ) (U := UU) (Lvl := ℕ) (Val := Elt F) (ℓ := (c : Thread nD τ).loc cc0_scratch0)
    (fun i : Fin 4 => (bC i).view.set)
    (fun b b' hb => by rw [set_bC, set_bC]; exact ch_disjoint b b' hb)
    (by rw [show (fun i : Fin 4 => (bC i).view.set) = fun i => (chR i).set from funext fun i => set_bC i]; exact ch_cover) (q := fullShare) f
  exact h

theorem c_slots (c : Dev nD) (f : S4x8x4x512.Idx → Elt F .bf16) :
    (((c : Thread nD τ).loc cc0_scratch1) ↦{fullShare} f : sProp 𝕄)
      = bigSep Finset.univ fun ik : Fin 4 × Fin 8 => cP c ik.1 ik.2 fullShare f := by
  have h := Ring.pointsTo_blocks (Ix := Unit) (Name := ℕ) (U := UU) (Lvl := ℕ) (Val := Elt F) (ℓ := (c : Thread nD τ).loc cc0_scratch1)
    (fun ik : Fin 4 × Fin 8 => (cS ik.1 ik.2).view.set)
    (fun b b' hb => by
      rw [Finset.disjoint_left]; intro j hj hj'
      have h1 := mem_cS hj; have h2 := mem_cS hj'
      exact hb (Prod.ext (Fin.ext (h1.1.symm.trans h2.1)) (Fin.ext (h1.2.symm.trans h2.2))))
    (by
      ext j; simp only [Finset.mem_biUnion, Finset.mem_univ, true_and, iff_true]
      exact ⟨(j 0, j 1), mem_cS_iff.mpr ⟨rfl, rfl⟩⟩) (q := fullShare) f
  exact h

/-- The eight slots of a chunk, as the load of all of them needs them. -/
theorem cc_slots (c : Dev nD) (i : Fin 4) (q : PosShare TreeShare) (f : S4x8x4x512.Idx → Elt F .bf16) :
    (cM.view.loc (c : Thread nD τ) ↦[cM.view.setOn (ccR i).set]{q} f : sProp 𝕄) = bigSep Finset.univ fun k : Fin 8 => cP c i k q f := by
  have h := Ring.pointsTo_sub_blocks (Ix := Unit) (Name := ℕ) (U := UU) (Lvl := ℕ) (Val := Elt F) (ℓ := (c : Thread nD τ).loc cc0_scratch1)
    (fun k : Fin 8 => (cS i k).view.set)
    (fun b b' hb => by
      rw [Finset.disjoint_left]; intro j hj hj'
      exact hb (Fin.ext ((mem_cS hj).2.symm.trans (mem_cS hj').2)))
    (cM.view.setOn (ccR i).set)
    (by
      have e : cM.view.setOn (ccR i).set = (ccR i).set := Finset.map_refl
      rw [e]
      ext j; simp only [Finset.mem_biUnion, Finset.mem_univ, true_and]
      have h1 := (j 1).isLt
      have h2 := (j 2).isLt
      have h3 := (j 3).isLt
      constructor
      · rintro ⟨k, hk⟩
        have hk := mem_cS hk
        refine Rect.mem_set_unit.mpr fun a => ?_
        match a with
        | ⟨0, _⟩ => show i.val ≤ (j 0).val ∧ (j 0).val < i.val + 1; omega
        | ⟨1, _⟩ => exact ⟨Nat.zero_le _, by show (j 1).val < 0 + 8; have : (j 1).val < 8 := h1; omega⟩
        | ⟨2, _⟩ => exact ⟨Nat.zero_le _, by show (j 2).val < 0 + 4; have : (j 2).val < 4 := h2; omega⟩
        | ⟨3, _⟩ => exact ⟨Nat.zero_le _, by show (j 3).val < 0 + 512; have : (j 3).val < 512 := h3; omega⟩
      · intro hj
        have h0 : i.val ≤ (j 0).val ∧ (j 0).val < i.val + 1 := Rect.mem_set_unit.mp hj 0
        exact ⟨j 1, mem_cS_iff.mpr ⟨by omega, rfl⟩⟩) (q := q) f
  exact h

/-- A slot at the full share is the slot at the eight equal shares. -/
theorem cP_leaves (c : Dev nD) (i : Fin 4) (k : Fin 8) (f : S4x8x4x512.Idx → Elt F .bf16) :
    (cP c i k fullShare f : sProp 𝕄) = bigSep Finset.univ fun l : Fin 8 => cP c i k (lf l) f :=
  ShareLeaves.pointsTo_leaves _ _ 3 fullShare

end Cert.LN

end
-- ==== Proof.State.lean ====
/-
# The state of a device between two operations

`St` lists what a device holds after so many signals, copies, transfers and waits. It is one chain of families over
index ranges: an operation takes the head of one range and adds to the end of another.
-/
module

public import proofs.«01_k».proof.Proof.Views

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over ranges -/

/-- A family over the indices from `lo` to `hi`. -/
abbrev fam {n : ℕ} (lo hi : ℕ) (Φ : Fin n → sProp 𝕄) : sProp 𝕄 := bigSep (Ring.rangeSet n lo hi) Φ

omit [FloatOps F] in
theorem fam_take {n : ℕ} {Φ : Fin n → sProp 𝕄} (j : Fin n) {hi : ℕ} (h : j.val < hi) :
    fam j.val hi Φ ⊢ iprop(Φ j ∗ fam (j.val + 1) hi Φ) :=
  Entails.of_eq (Ring.bigSep_rangeSet_head h j.isLt)

omit [FloatOps F] in
theorem fam_add {n : ℕ} {Φ : Fin n → sProp 𝕄} (j : Fin n) {lo : ℕ} (h : lo ≤ j.val) :
    iprop(Φ j ∗ fam lo j.val Φ) ⊢ fam lo (j.val + 1) Φ :=
  Entails.of_eq (by
    have e := Ring.bigSep_rangeSet_last (Φ := Φ) (lo := lo) (hi := j.val + 1) (by omega) (by have := j.isLt; omega)
    exact e.symm)

omit [FloatOps F] in
theorem fam_nil {n : ℕ} {Φ : Fin n → sProp 𝕄} (j : ℕ) : (emp : sProp 𝕄) ⊢ fam j j Φ :=
  Entails.of_eq (Ring.bigSep_rangeSet_empty le_rfl).symm

/-! ## What is known for good -/

/-- Every cell's invariant, and that its round 0 is reached. -/
def records (K : Dev nD × Kd → ℕ) : sProp 𝕄 :=
  iprop((bigSep Finset.univ fun ck : Dev nD × Kd => cellInv ER (Rd m) (K ck) (kcell ck))
    ∗ bigSep Finset.univ fun ck : Dev nD × Kd => reached ER (kcell ck) 0)

instance records_persistent (K : Dev nD × Kd → ℕ) : BI.Persistent (records (F := F) m K) := by unfold records; infer_instance

theorem inv_at (K : Dev nD × Kd → ℕ) (c : Dev nD) (k : Kd) : records m K ⊢ cellInv ER (Rd m) (K (c, k)) (kc c k) := by
  unfold records; iintro ⟨H, -⟩
  iapply (show (bigSep Finset.univ fun ck : Dev nD × Kd => cellInv ER (Rd (F := F) m) (K ck) (kcell ck)) ⊢ cellInv ER (Rd m) (K (c, k)) (kc c k) from
    bigSep_elim (Finset.mem_univ (c, k))); iexact H

theorem reached_at (K : Dev nD × Kd → ℕ) (c : Dev nD) (k : Kd) : records m K ⊢ reached ER (kc c k) 0 := by
  unfold records; iintro ⟨-, H⟩
  iapply (show (bigSep Finset.univ fun ck : Dev nD × Kd => (reached ER (kcell ck) 0 : sProp 𝕄)) ⊢ reached ER (kc c k) 0 from
    bigSep_elim (Finset.mem_univ (c, k))); iexact H

/-! ## The parts of the state -/

section

variable (c : Dev nD)

/-- The credit of a cell's one wait; its wait position; its counter, closed; the token of its one duty. -/
abbrev crd (k : Kd) : sProp 𝕄 := cred (tallyAt (kc c k) () (amt k))
abbrev pos (k : Kd) : sProp 𝕄 := atPos ER (kc c k) 0 ∅ 0
abbrev zer (k : Kd) : sProp 𝕄 := semVal (kc c k) 0
abbrev tok (k : Kd) : sProp 𝕄 := dutyTok ER (kc c k) 0 0

abbrev tSig (d : Fin 7) : sProp 𝕄 := iprop(dutyTok ER (kc (peer c d) kBar) 0 d ∗ land (peer c d) (rev d))
/-- The slot that transfer `j` lands in, on the peer. -/
abbrev tDst (j : Fin 28) : sProp 𝕄 := iprop(∃ f, cP (peer c (ej j)) (ij j) (ej j).castSucc fullShare f)
def sBar (br : Bool) (sd : ℕ) : sProp 𝕄 := match br with
  | false => iprop(cred (tallyAt (kc c kBar) () 7) ∗ pos c kBar)
  | true => iprop(zer c kBar ∗ fam sd 28 (tDst c))
theorem sBar_false (sd : ℕ) : (sBar c false sd : sProp 𝕄) = iprop(cred (tallyAt (kc c kBar) () 7) ∗ pos c kBar) := rfl
theorem sBar_true (sd : ℕ) : (sBar c true sd : sProp 𝕄) = iprop(zer c kBar ∗ fam sd 28 (tDst c)) := rfl
abbrev tSnd (j : Fin 28) : sProp 𝕄 := iprop(tok c (kSnd j) ∗ tok (peer c (ej j)) (kRcv j))
abbrev tIn (i : Fin 4) : sProp 𝕄 := iprop(tok c (kIn i) ∗ xP c i (xA m c) ∗ ∃ f, bP c i f)
abbrev dIn (i : Fin 4) : sProp 𝕄 := iprop(zer c (kIn i) ∗ xP c i (xA m c))
abbrev bX (i : Fin 4) : sProp 𝕄 := bP c i (xA m c)
abbrev bO (i : Fin 4) : sProp 𝕄 := bP c i (outF m c)
abbrev tOut (i : Fin 4) : sProp 𝕄 := iprop(tok c (kOut i) ∗ ∃ f, yP c i f)
abbrev dOut (i : Fin 4) : sProp 𝕄 := iprop(zer c (kOut i) ∗ bP c i (outF m c) ∗ yP c i (outF m c))
abbrev c7 (i : Fin 4) : sProp 𝕄 := iprop(∃ f, cP c i 7 fullShare f)
abbrev k7 (i : Fin 4) : sProp 𝕄 := cP c i 7 (lf 7) (commF m c)
abbrev s7 (j : Fin 28) : sProp 𝕄 := cP c (ij j) 7 (lf (ej j).castSucc) (commF m c)
abbrev dSnd (j : Fin 28) : sProp 𝕄 := iprop(zer c (kSnd j) ∗ s7 m c j)
abbrev tRcv (j : Fin 28) : sProp 𝕄 := iprop(crd c (kRcv j) ∗ pos c (kRcv j))
abbrev r7 (j : Fin 28) : sProp 𝕄 := cP c (ij j) (ej j).castSucc fullShare (commF m c)
abbrev dRcv (j : Fin 28) : sProp 𝕄 := iprop(zer c (kRcv j) ∗ r7 m c j)
/-- The staged operands. -/
abbrev wins : sProp 𝕄 :=
  iprop((((c : Thread nD τ).loc cc0_stg0_0) ↦{fullShare} tW m c) ∗ (((c : Thread nD τ).loc cc0_stg1_0) ↦{fullShare} scW m c)
    ∗ (((c : Thread nD τ).loc cc0_stg2_0) ↦{fullShare} shW m c))

/-- The state after `sg` signals, `ci` in-copies begun and `wi` waited for, `pr` chunks prepared, the barrier passed or not,
    `sd` transfers begun and `ws` of their sources back, `rc` receptions, `xo` chunks of the result computed, `oc` of them
    on their way out and `wo` there. -/
def St (K : Dev nD × Kd → ℕ) (sg ci wi pr : ℕ) (br : Bool) (sd rc xo oc ws wo : ℕ) : sProp 𝕄 :=
  iprop(records m K ∗ levAts L lv ∗ (∃ W, owes (c : Thread nD τ) (owed c sg sd) W)
    ∗ fam sg 7 (tSig c) ∗ sBar c br sd ∗ fam sd 28 (tSnd c)
    ∗ fam ci 4 (tIn m c) ∗ fam wi ci (fun i => crd c (kIn i)) ∗ fam wi 4 (fun i => pos c (kIn i)) ∗ fam 0 wi (dIn m c)
    ∗ fam xo wi (bX m c) ∗ fam oc xo (bO m c)
    ∗ fam oc 4 (tOut c) ∗ fam wo oc (fun i => crd c (kOut i)) ∗ fam wo 4 (fun i => pos c (kOut i)) ∗ fam 0 wo (dOut m c)
    ∗ fam pr 4 (c7 c) ∗ fam 0 pr (k7 m c) ∗ fam sd (7 * pr) (s7 m c)
    ∗ fam ws sd (fun j => crd c (kSnd j)) ∗ fam ws 28 (fun j => pos c (kSnd j)) ∗ fam 0 ws (dSnd m c)
    ∗ fam rc 28 (tRcv c) ∗ fam 0 rc (dRcv m c) ∗ wins m c)

end

/-- The weakest precondition of a program of device `c`. -/
abbrev Wp {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-! ## One wait -/

/-- A wait for the whole round of one of the device's own cells: its payload, and the cell closes. -/
theorem wait_own (K : Dev nD × Kd → ℕ) (c : Dev nD) (o : Own) (sg sd : ℕ) {α : Type} {Q : α → sProp 𝕄}
    {w : TpuEff nD τ sig (Elt F) Λ₀ .tc PUnit} {k : PUnit → Prog (TpuEff nD τ sig (Elt F) Λ₀ .tc) α}
    (hw : ∀ K' : PUnit → sProp 𝕄, wpE (defs₀ (F := F)) Variants.none (c : Thread nD τ) none Set.univ w K'
      = waitSpec (c : Thread nD τ) Set.univ (csem (.inr o)) (amt (.inr o)) K')
    (hm : (levAts L lv : sProp 𝕄) ⊢ MayWait (c : Thread nD τ) (csem (.inr o)) () (owed c sg sd)) :
    iprop(records m K ∗ levAts L lv ∗ crd c (.inr o) ∗ (∃ W, owes (c : Thread nD τ) (owed c sg sd) W) ∗ pos c (.inr o))
      ⊢ iprop((((∃ W, owes (c : Thread nD τ) (owed c sg sd) W) ∗ zer c (.inr o) ∗ pay m c (.inr o) 0) -∗ Wp c (k ⟨⟩) Q)
          -∗ Wp c (.op w k) Q) := by
  iintro ⟨#HR, #HL, Hc, ⟨%W, HO⟩, Hat⟩ Hk
  unfold crd pos zer
  iapply (Rounds.wp_wait_rest_token Variants.none ER (Rd m) (c : Thread nD τ) none (κ := K (c, .inr o)) hw (Set.mem_univ _) ()
      (O := owed c sg sd) (W := W) (R := 0) (m := 0) (T := ∅) (by rw [Nat.zero_add]; exact (Rd_expect m c o).symm)) $$ [Hc HO Hat]
  · isplitr; · iapply (inv_at m K c (.inr o)); iexact HR
    isplitl [Hc]; · iexact Hc
    isplitl [HO]; · iexact HO
    isplitr; · iapply hm; iexact HL
    iexact Hat
  iintro ⟨HO, Hat, -, Hpay⟩
  imod (Rounds.cell_close ER (Rd m) (Set.mem_univ (K (c, .inr o))) (fun h => h) (R := 0 + 1) (Rd_duties_later m (kc c (.inr o)))) $$ [Hat] with Hz
  · isplitr; · iapply (inv_at m K c (.inr o)); iexact HR
    iexact Hat
  iapply Hk
  isplitl [HO]; · iexists _; iexact HO
  isplitl [Hz]; · iexact Hz
  iapply (Entails.of_eq (Rd_rest m c o)); iexact Hpay

end Cert.LN

end
-- ==== Proof.Steps.lean ====
/-
# One operation at a time

For each operation of the body, the weakest precondition from the state before it, given the one from the state after it.
-/
module

public import proofs.«01_k».proof.Proof.State

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Kd → ℕ} {c : Dev nD}
  {sg ci wi pr sd rc xo oc ws wo : ℕ} {br : Bool} {α : Type}
  {k : PUnit → Prog (TpuEff nD τ sig (Elt F) Λ₀ .tc) α}

variable {R : α → sProp (MT nD τ sig Unit (Elt F) ℕ UU ℕ)}

theorem mem_bar {c : Dev nD} (d : Fin 7) : d ∈ (Rd (F := F) m).duties ((c : Thread nD τ), .reg barS) 0 := by
  rw [show (((c : Thread nD τ), .reg barS) : GSem nD τ sig) = kc c kBar from rfl, Rd_duties]; exact Finset.mem_univ d
theorem mem_own {c : Dev nD} {o : Own} : (0 : Fin 7) ∈ (Rd (F := F) m).duties (kc c (.inr o)) 0 := by
  rw [Rd_duties]; exact Finset.mem_singleton_self _
theorem pay_bar {c : Dev nD} (d : Fin 7) : (land c (rev d) : sProp 𝕄) ⊢ (Rd m).payload ((c : Thread nD τ), .reg barS) 0 d :=
  Entails.of_eq (Rd_payload m c kBar d).symm

/-! ## Signals and copies -/

/-- The signal to the peer `d + 1` places up. -/
theorem step_sig (d : Fin 7) (n : Dev nD) (hn : n = peer c d)
    (h : St m c K (d.val + 1) ci wi pr br sd rc xo oc ws wo ⊢ Wp c (k ⟨⟩) R) :
    St m c K d.val ci wi pr br sd rc xo oc ws wo ⊢ Wp c (.op (.semSignal ((n, .tc) : Thread nD τ) barS 1) k) R := by
  subst hn
  unfold St
  iintro ⟨#HR, #HL, ⟨%W, HO⟩, HS, Hrest⟩
  ihave HS := (fam_take d d.isLt) $$ HS
  icases HS with ⟨⟨Ht, Hl⟩, HS⟩
  iapply (Rounds.wp_signal Variants.none ER (Rd m) (c : Thread nD τ) none (dst := (peer c d : Thread nD τ)) (κ := K (peer c d, kBar)) (d := d)
      (mem_bar d) (Rd_amount m _ kBar d) () (owed c (d.val + 1) sd) (owed_signal c d sd)) $$ [HO Ht Hl]
  · isplitr; · iapply (inv_at m K (peer c d) kBar); iexact HR
    isplitl [HO]; · iexact HO
    isplitl [Ht]; · iexact Ht
    isplitl [Hl]; · iapply (pay_bar d); iexact Hl
    iapply (reached_at m K (peer c d) kBar); iexact HR
  iintro HO
  iapply h
  unfold St
  isplitr; · iexact HR
  isplitr; · iexact HL
  isplitl [HO]; · iexists W; iexact HO
  isplitl [HS]; · iexact HS
  iexact Hrest

/-- An in-copy begins. -/
theorem step_in (i : Fin 4) {x : Memref sig .tc .hbm S2x512x512 .f32} {b : Memref sig .tc .vmem S2x512x512 .f32} {q : SemLoc sig}
    (hx : x = xC i) (hb : b = bC i) (hq : q = csem (kIn i)) {hsrc hdst hsem} (hwi : wi ≤ i.val)
    (h : St m c K sg (i.val + 1) wi pr br sd rc xo oc ws wo ⊢ Wp c (k ⟨⟩) R) :
    St m c K sg i.val wi pr br sd rc xo oc ws wo
      ⊢ Wp c (.op (.enqueueDma x (.here b) q hsrc hdst hsem) k) R := by
  subst hx hb hq
  unfold St
  iintro ⟨#HR, #HL, HO, HS, HB, HT, HI, HC, Hrest⟩
  ihave HI := (fam_take i i.isLt) $$ HI
  icases HI with ⟨⟨Ht, Hx, ⟨%f, Hb⟩⟩, HI⟩
  unfold xP bP
  iapply (Rounds.wp_copy_pointsTo Variants.none ER (Rd m) (c : Thread nD τ) none (κ := K (c, kIn i)) (r := 0) (d := 0) (fd := f) (q := fullShare) (fs := xA m c)
      mem_own () (amt (kIn i)) rfl (Rd_amount m c (kIn i) 0)
      (by rw [bP_landed, Rd_payload]; exact sep_comm.1)) $$ [Ht Hx Hb]
  · isplitr; · iapply (inv_at m K c (kIn i)); iexact HR
    isplitl [Hx]; · iexact Hx
    isplitl [Hb]; · iexact Hb
    isplitl [Ht]; · iexact Ht
    iapply (reached_at m K c (kIn i)); iexact HR
  iintro Hcr
  ihave HC := (fam_add (Φ := fun i => crd c (kIn i)) i hwi) $$ [HC Hcr]
  · isplitl [Hcr]; · iexact Hcr
    iexact HC
  iapply h
  unfold St
  isplitr; · iexact HR
  isplitr; · iexact HL
  iframe

/-- An out-copy begins. -/
theorem step_out (i : Fin 4) {b : Memref sig .tc .vmem S2x512x512 .f32} {y : Memref sig .tc .hbm S2x512x512 .f32} {q : SemLoc sig}
    (hb : b = bC i) (hy : y = yC i) (hq : q = csem (kOut i)) {hsrc hdst hsem} (hwo : wo ≤ i.val) (hxo : i.val < xo)
    (h : St m c K sg ci wi pr br sd rc xo (i.val + 1) ws wo ⊢ Wp c (k ⟨⟩) R) :
    St m c K sg ci wi pr br sd rc xo i.val ws wo
      ⊢ Wp c (.op (.enqueueDma b (.here y) q hsrc hdst hsem) k) R := by
  subst hb hy hq
  unfold St
  iintro ⟨#HR, #HL, HO, HS, HB, HT, HI, HC, HA, HD, HX, HY, HI2, HC2, Hrest⟩
  ihave HI2 := (fam_take i i.isLt) $$ HI2
  icases HI2 with ⟨⟨Ht, ⟨%f, Hy⟩⟩, HI2⟩
  ihave HY := (fam_take i hxo) $$ HY
  icases HY with ⟨Hb, HY⟩
  unfold yP bO bP
  iapply (Rounds.wp_copy_pointsTo Variants.none ER (Rd m) (c : Thread nD τ) none (κ := K (c, kOut i)) (r := 0) (d := 0) (fd := f) (q := fullShare) (fs := outF m c)
      mem_own () (amt (kOut i)) rfl (Rd_amount m c (kOut i) 0)
      (by rw [yP_landed, Rd_payload]; exact sep_comm.1)) $$ [Ht Hy Hb]
  · isplitr; · iapply (inv_at m K c (kOut i)); iexact HR
    isplitl [Hb]; · iexact Hb
    isplitl [Hy]; · iexact Hy
    isplitl [Ht]; · iexact Ht
    iapply (reached_at m K c (kOut i)); iexact HR
  iintro Hcr
  ihave HC2 := (fam_add (Φ := fun i => crd c (kOut i)) i hwo) $$ [HC2 Hcr]
  · isplitl [Hcr]; · iexact Hcr
    iexact HC2
  iapply h
  unfold St
  isplitr; · iexact HR
  isplitr; · iexact HL
  unfold bO bP
  iframe

theorem amt_rcv (j : Fin 28) : amt (kRcv j) = amt (kSnd j) := rfl

/-- An addressed transfer between two devices, at any memrefs and cells of the schedule. -/
theorem send_gen {c c' : Dev nD} (S D : Memref sig .tc .vmem S4x512 .bf16) (s₁ s₂ : SemLoc sig) {hsc : D.view.ref.isScScratch = false}
    {hsrc hdst} {hsem : DmaTarget.Typed .vmem s₂ (.remote (Dev.tc c' : Thread nD τ) D s₁ hsc)}
    {q : PosShare TreeShare} {fs : Buf (Elt F) (S.view.loc (c : Thread nD τ))} {fd : Buf (Elt F) (D.view.loc (c' : Thread nD τ))}
    {κ₁ κ₂ : ℕ} (hd₁ : 0 ∈ (Rd (F := F) m).duties ((c : Thread nD τ), s₁) 0) (hd₂ : 0 ∈ (Rd (F := F) m).duties ((c' : Thread nD τ), s₂) 0)
    (N : ℕ) (hN : D.view.amount s₂ = N) (hk₁ : (Rd (F := F) m).amount ((c : Thread nD τ), s₁) 0 0 = N)
    (hk₂ : (Rd (F := F) m).amount ((c' : Thread nD τ), s₂) 0 0 = N)
    {O O' : CellTallies nD τ sig Unit} (hO : O = O' + tallyAt ((c' : Thread nD τ), s₂) () N) {W : Waits sig Unit}
    (p₁ : (S.view.loc (c : Thread nD τ) ↦[S.view.set]{q} fs : sProp 𝕄) ⊢ (Rd m).payload ((c : Thread nD τ), s₁) 0 0)
    (p₂ : (D.view.loc (c' : Thread nD τ) ↦[D.view.set]{fullShare} (D.view.write (Elt F) fd (S.view.read (Elt F) fs) Finset.univ) : sProp 𝕄)
      ⊢ (Rd m).payload ((c' : Thread nD τ), s₂) 0 0) :
    iprop(cellInv ER (Rd m) κ₁ ((c : Thread nD τ), s₁) ∗ cellInv ER (Rd m) κ₂ ((c' : Thread nD τ), s₂)
        ∗ (S.view.loc (c : Thread nD τ) ↦[S.view.set]{q} fs) ∗ (D.view.loc (c' : Thread nD τ) ↦[D.view.set]{fullShare} fd)
        ∗ owes (c : Thread nD τ) O W
        ∗ dutyTok ER ((c : Thread nD τ), s₁) 0 0 ∗ reached ER ((c : Thread nD τ), s₁) 0
        ∗ dutyTok ER ((c' : Thread nD τ), s₂) 0 0 ∗ reached ER ((c' : Thread nD τ), s₂) 0)
      ⊢ iprop(((cred (tallyAt ((c : Thread nD τ), s₁) () N) ∗ owes (c : Thread nD τ) O' W) -∗ Wp c (k ⟨⟩) R)
        -∗ Wp c (.op (.enqueueDma S (.remote (Dev.tc c' : Thread nD τ) D s₁ hsc) s₂ hsrc hdst hsem) k) R) :=
  Rounds.wp_send_pointsTo Variants.none ER (Rd m) (c : Thread nD τ) none hd₁ hd₂ () () N hN hk₁ hk₂ O' hO p₁ p₂

theorem send_core (j : Fin 28) {hsc hsrc hdst hsem} (f : S4x8x4x512.Idx → Elt F .bf16) {O O' : CellTallies nD τ sig Unit}
    (hO : O = O' + tallyAt (kc (peer c (ej j)) (kRcv j)) () (amt (kRcv j))) {W : Waits sig Unit} :
    iprop(cellInv ER (Rd m) (K (c, kSnd j)) (kc c (kSnd j)) ∗ cellInv ER (Rd m) (K (peer c (ej j), kRcv j)) (kc (peer c (ej j)) (kRcv j))
        ∗ cP c (ij j) 7 (lf (ej j).castSucc) (commF m c) ∗ cP (peer c (ej j)) (ij j) (ej j).castSucc fullShare f
        ∗ owes (c : Thread nD τ) O W
        ∗ tok c (kSnd j) ∗ reached ER (kc c (kSnd j)) 0 ∗ tok (peer c (ej j)) (kRcv j) ∗ reached ER (kc (peer c (ej j)) (kRcv j)) 0)
      ⊢ iprop(((crd c (kSnd j) ∗ owes (c : Thread nD τ) O' W) -∗ Wp c (k ⟨⟩) R)
        -∗ Wp c (.op (.enqueueDma (cS (ij j) 7) (.remote (Dev.tc (peer c (ej j)) : Thread nD τ) (cS (ij j) (ej j).castSucc) (csem (kSnd j)) hsc) (csem (kRcv j)) hsrc hdst hsem) k) R) := by
  have h2 : (Rd (F := F) m).amount (kc (peer c (ej j)) (kRcv j)) 0 0 = amt (kSnd j) := (Rd_amount m (peer c (ej j)) (kRcv j) 0).trans (amt_rcv j)
  rw [amt_rcv] at hO
  have hN : (cS (ij j) (ej j).castSucc).view.amount (csem (kRcv j)) = amt (kSnd j) := rfl
  have p1 : (((cS (ij j) 7).view.loc (c : Thread nD τ)) ↦[(cS (ij j) 7).view.set]{lf (ej j).castSucc} commF m c : sProp 𝕄)
      ⊢ (Rd m).payload (kc c (kSnd j)) 0 0 := Entails.of_eq (Rd_payload m c (kSnd j) 0).symm
  have p2 := Entails.of_eq ((cP_landed m c (ij j) (ej j) f).trans (Rd_payload m (peer c (ej j)) (kRcv j) 0).symm)
  have hk1 := Rd_amount m c (kSnd j) 0
  unfold cP
  exact send_gen (cS (ij j) 7) (cS (ij j) (ej j).castSucc) (csem (kSnd j)) (csem (kRcv j)) (mem_own (c := c)) (mem_own (c := peer c (ej j)))
    (amt (kSnd j)) hN hk1 h2 hO p1 p2

/-- Transfer `j`: chunk `ij j`'s statistics to the peer `ej j + 1` places up. -/
theorem step_snd (j : Fin 28) (n : Dev nD) (hn : n = peer c (ej j)) {hsc hsrc hdst hsem} (hws : ws ≤ j.val) (hpr : j.val < 7 * pr)
    (h : St m c K sg ci wi pr true (j.val + 1) rc xo oc ws wo ⊢ Wp c (k ⟨⟩) R) :
    St m c K sg ci wi pr true j.val rc xo oc ws wo
      ⊢ Wp c (.op (.enqueueDma (cS (ij j) 7) (.remote (Dev.tc n : Thread nD τ) (cS (ij j) (ej j).castSucc) (csem (kSnd j)) hsc) (csem (kRcv j)) hsrc hdst hsem) k) R := by
  subst hn
  unfold St
  rw [sBar_true]
  iintro ⟨#HR, #HL, ⟨%W, HO⟩, HS, ⟨HZ, HB⟩, HT, HI, HC, HA, HD, HX, HY, HI2, HC2, HA2, HD2, H7, HK7, HS7, HCs, Hrest⟩
  ihave HB := (fam_take j j.isLt) $$ HB
  icases HB with ⟨⟨%f, Hd⟩, HB⟩
  ihave HT := (fam_take j j.isLt) $$ HT
  icases HT with ⟨⟨Ht, Ht'⟩, HT⟩
  ihave HS7 := (fam_take j hpr) $$ HS7
  icases HS7 with ⟨Hs, HS7⟩
  iapply (send_core j f (owed_send c sg j)) $$ [Hs Hd HO Ht Ht']
  · isplitr; · iapply (inv_at m K c (kSnd j)); iexact HR
    isplitr; · iapply (inv_at m K (peer c (ej j)) (kRcv j)); iexact HR
    isplitl [Hs]; · iexact Hs
    isplitl [Hd]; · iexact Hd
    isplitl [HO]; · iexact HO
    isplitl [Ht]; · iexact Ht
    isplitr; · iapply (reached_at m K c (kSnd j)); iexact HR
    isplitl [Ht']; · iexact Ht'
    iapply (reached_at m K (peer c (ej j)) (kRcv j)); iexact HR
  iintro ⟨Hcr, HO⟩
  ihave HCs := (fam_add (Φ := fun j => crd c (kSnd j)) j hws) $$ [HCs Hcr]
  · isplitl [Hcr]; · iexact Hcr
    iexact HCs
  iapply h
  unfold St
  isplitr; · iexact HR
  isplitr; · iexact HL
  isplitl [HO]; · iexists W; iexact HO
  rw [sBar_true]
  iframe

/-! ## Waits -/

/-- The wait for an in-copy. -/
theorem step_win (i : Fin 4) {q : DmaSem sig} (hq : SemLoc.dma q = csem (kIn i)) {hsrc hdst} (hxo : xo ≤ i.val) (hci : i.val < ci)
    (h : St m c K sg ci (i.val + 1) pr br sd rc xo oc ws wo ⊢ Wp c (k ⟨⟩) R) :
    St m c K sg ci i.val pr br sd rc xo oc ws wo ⊢ Wp c (.op (.waitDma2 q (xC i) (bC i) hsrc hdst) k) R := by
  unfold St
  iintro ⟨#HR, #HL, HO, HS, HB, HT, HI, HC, HA, HD, HX, Hrest⟩
  ihave HC := (fam_take i hci) $$ HC
  icases HC with ⟨Hcr, HC⟩
  ihave HA := (fam_take i i.isLt) $$ HA
  icases HA with ⟨Hat, HA⟩
  iapply (wait_own m K c (.inl i) sg sd (fun K' => (wpE_waitDma2_eq Variants.none (c : Thread nD τ) none Set.univ K').trans (by rw [hq]; rfl))
    (mayWait_of c (csem (kIn i)) sg sd 0 (lv_kc c (kIn i)).le (fun _ => by omega) (fun _ => by omega))) $$ [Hcr Hat HO]
  · isplitr; · iexact HR
    isplitr; · iexact HL
    isplitl [Hcr]; · iexact Hcr
    isplitl [HO]; · iexact HO
    iexact Hat
  iintro ⟨HO, Hz, Hpay⟩
  unfold pay
  icases Hpay with ⟨Hx, Hb⟩
  ihave HD := (fam_add (Φ := dIn m c) i (Nat.zero_le _)) $$ [HD Hz Hx]
  · isplitl [Hz Hx]; · isplitl [Hz] <;> iassumption
    iexact HD
  ihave HX := (fam_add (Φ := bX m c) i hxo) $$ [HX Hb]
  · isplitl [Hb]; · iexact Hb
    iexact HX
  iapply h
  unfold St
  isplitr; · iexact HR
  isplitr; · iexact HL
  iframe

/-- The wait for an out-copy. -/
theorem step_wout (i : Fin 4) {q : DmaSem sig} (hq : SemLoc.dma q = csem (kOut i)) {hsrc hdst} (hoc : i.val < oc)
    (h : St m c K sg ci wi pr br sd rc xo oc ws (i.val + 1) ⊢ Wp c (k ⟨⟩) R) :
    St m c K sg ci wi pr br sd rc xo oc ws i.val ⊢ Wp c (.op (.waitDma2 q (bC i) (yC i) hsrc hdst) k) R := by
  unfold St
  iintro ⟨#HR, #HL, HO, HS, HB, HT, HI, HC, HA, HD, HX, HY, HI2, HC2, HA2, HD2, Hrest⟩
  ihave HC2 := (fam_take i hoc) $$ HC2
  icases HC2 with ⟨Hcr, HC2⟩
  ihave HA2 := (fam_take i i.isLt) $$ HA2
  icases HA2 with ⟨Hat, HA2⟩
  iapply (wait_own m K c (.inr (.inl i)) sg sd (fun K' => (wpE_waitDma2_eq Variants.none (c : Thread nD τ) none Set.univ K').trans (by rw [hq]; rfl))
    (mayWait_of c (csem (kOut i)) sg sd 0 (lv_kc c (kOut i)).le (fun _ => by omega) (fun _ => by omega))) $$ [Hcr Hat HO]
  · isplitr; · iexact HR
    isplitr; · iexact HL
    isplitl [Hcr]; · iexact Hcr
    isplitl [HO]; · iexact HO
    iexact Hat
  iintro ⟨HO, Hz, Hpay⟩
  unfold pay
  ihave HD2 := (fam_add (Φ := dOut m c) i (Nat.zero_le _)) $$ [HD2 Hz Hpay]
  · isplitl [Hz Hpay]; · isplitl [Hz] <;> iassumption
    iexact HD2
  iapply h
  unfold St
  isplitr; · iexact HR
  isplitr; · iexact HL
  iframe

/-- The wait for transfer `j`'s source. -/
theorem step_wsnd (j : Fin 28) {q : DmaSem sig} (hq : SemLoc.dma q = csem (kSnd j)) {hsrc hdst} (hsd : j.val < sd)
    (h : St m c K sg ci wi pr br sd rc xo oc (j.val + 1) wo ⊢ Wp c (k ⟨⟩) R) :
    St m c K sg ci wi pr br sd rc xo oc j.val wo
      ⊢ Wp c (.op (.waitDma2 q (cS (ij j) (ej j).castSucc) (cS (ij j) 7) hsrc hdst) k) R := by
  unfold St
  iintro ⟨#HR, #HL, HO, HS, HB, HT, HI, HC, HA, HD, HX, HY, HI2, HC2, HA2, HD2, H7, HK7, HS7, HCs, HAs, HDs, Hrest⟩
  ihave HCs := (fam_take j hsd) $$ HCs
  icases HCs with ⟨Hcr, HCs⟩
  ihave HAs := (fam_take j j.isLt) $$ HAs
  icases HAs with ⟨Hat, HAs⟩
  iapply (wait_own m K c (.inr (.inr (.inl j))) sg sd (fun K' => (wpE_waitDma2_eq Variants.none (c : Thread nD τ) none Set.univ K').trans (by rw [hq]; rfl))
    (mayWait_of c (csem (kSnd j)) sg sd 0 (lv_kc c (kSnd j)).le (fun _ => by omega) (fun _ => by omega))) $$ [Hcr Hat HO]
  · isplitr; · iexact HR
    isplitr; · iexact HL
    isplitl [Hcr]; · iexact Hcr
    isplitl [HO]; · iexact HO
    iexact Hat
  iintro ⟨HO, Hz, Hpay⟩
  unfold pay
  ihave HDs := (fam_add (Φ := dSnd m c) j (Nat.zero_le _)) $$ [HDs Hz Hpay]
  · isplitl [Hz Hpay]; · isplitl [Hz] <;> iassumption
    iexact HDs
  iapply h
  unfold St
  isplitr; · iexact HR
  isplitr; · iexact HL
  iframe

/-- The wait for the peer's transfer `j` to land: nothing is owed any more. -/
theorem step_wrcv (j : Fin 28) {q : DmaSem sig} (hq : SemLoc.dma q = csem (kRcv j)) {hsrc hdst}
    (h : St m c K 7 ci wi pr br 28 (j.val + 1) xo oc ws wo ⊢ Wp c (k ⟨⟩) R) :
    St m c K 7 ci wi pr br 28 j.val xo oc ws wo
      ⊢ Wp c (.op (.waitDma2 q (cS (ij j) 7) (cS (ij j) (ej j).castSucc) hsrc hdst) k) R := by
  unfold St
  iintro ⟨#HR, #HL, HO, HS, HB, HT, HI, HC, HA, HD, HX, HY, HI2, HC2, HA2, HD2, H7, HK7, HS7, HCs, HAs, HDs, HRt, HRd, Hrest⟩
  ihave HRt := (fam_take j j.isLt) $$ HRt
  icases HRt with ⟨⟨Hcr, Hat⟩, HRt⟩
  iapply (wait_own m K c (.inr (.inr (.inr j))) 7 28 (fun K' => (wpE_waitDma2_eq Variants.none (c : Thread nD τ) none Set.univ K').trans (by rw [hq]; rfl))
    (mayWait_of c (csem (kRcv j)) 7 28 2 (lv_kc c (kRcv j)).le (fun h => by omega) (fun h => by omega))) $$ [Hcr Hat HO]
  · isplitr; · iexact HR
    isplitr; · iexact HL
    isplitl [Hcr]; · iexact Hcr
    isplitl [HO]; · iexact HO
    iexact Hat
  iintro ⟨HO, Hz, Hpay⟩
  unfold pay
  ihave HRd := (fam_add (Φ := dRcv m c) j (Nat.zero_le _)) $$ [HRd Hz Hpay]
  · isplitl [Hz Hpay]; · isplitl [Hz] <;> iassumption
    iexact HRd
  iapply h
  unfold St
  isplitr; · iexact HR
  isplitr; · iexact HL
  iframe

end Cert.LN

end
-- ==== Proof.Steps2.lean ====
/-
# The barrier, the loads and the stores

The steps that rearrange families: passing the barrier (the peers' landing slots, by transfer), preparing a chunk (slot 7
stored, and cut into eight shares), loading a chunk's eight slots (slot 7 at the share kept back), computing a chunk.
-/
module

public import proofs.«01_k».proof.Proof.Steps

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : Dev nD × Kd → ℕ} {c : Dev nD}
  {sg ci wi pr sd rc xo oc ws wo : ℕ} {br : Bool} {α : Type}
  {k : PUnit → Prog (TpuEff nD τ sig (Elt F) Λ₀ .tc) α}

variable {R : α → sProp (MT nD τ sig Unit (Elt F) ℕ UU ℕ)}

/-! ## Families by chunk -/

/-- The number of chunk `i`'s transfer `e`. -/
def jn (i : Fin 4) (e : Fin 7) : Fin 28 := ⟨7 * i.val + e.val, by omega⟩
theorem ij_jn (i : Fin 4) (e : Fin 7) : ij (jn i e) = i := by revert i e; decide
theorem ej_jn (i : Fin 4) (e : Fin 7) : ej (jn i e) = e := by revert i e; decide
def jEquiv : Fin 4 × Fin 7 ≃ Fin 28 where
  toFun p := jn p.1 p.2
  invFun j := (ij j, ej j)
  left_inv p := Prod.ext (ij_jn p.1 p.2) (ej_jn p.1 p.2)
  right_inv j := by revert j; decide

omit [FloatOps F] in
/-- The transfers of one chunk. -/
theorem fam_seven (i : Fin 4) (Φ : Fin 28 → sProp 𝕄) : fam (7 * i.val) (7 * (i.val + 1)) Φ = bigSep Finset.univ fun e : Fin 7 => Φ (jn i e) := by
  have hinj : Function.Injective (jn i) := fun a b h => by rw [← ej_jn i a, ← ej_jn i b, h]
  have e : Ring.rangeSet 28 (7 * i.val) (7 * (i.val + 1)) = Finset.univ.map ⟨jn i, hinj⟩ := by
    revert hinj; revert i; decide
  unfold fam
  rw [e, bigSep_map]; rfl

omit [FloatOps F] in
theorem fam_all {n : ℕ} (Φ : Fin n → sProp 𝕄) : fam 0 n Φ = bigSep Finset.univ Φ := by
  unfold fam; rw [Ring.rangeSet_univ]

omit [FloatOps F] in
theorem bigSep_eight (Φ : Fin 8 → sProp 𝕄) : bigSep Finset.univ Φ = iprop(Φ 7 ∗ bigSep Finset.univ fun e : Fin 7 => Φ e.castSucc) := by
  rw [Fin.univ_castSuccEmb, Finset.cons_eq_insert, bigSep_insert (by simpa using fun x : Fin 7 => (Fin.castSucc_lt_last x).ne), bigSep_map]; rfl

/-- What the seven peers hand over at the barrier, by transfer. -/
theorem bar_pay (c : Dev nD) :
    (bigSep Finset.univ fun d : Fin 7 => (land c (rev d) : sProp 𝕄)) = fam 0 28 (tDst c) := by
  rw [fam_all, bigSep_univ_equiv jEquiv, bigSep_univ_equiv (Equiv.prodComm (Fin 7) (Fin 4)), bigSep_univ_prod]
  refine (bigSep_univ_equiv (⟨rev, rev, rev_rev, rev_rev⟩ : Fin 7 ≃ Fin 7) fun d => (land c (rev d) : sProp 𝕄)).trans ?_
  refine bigSep_congr fun d _ => ?_
  show land c (rev (rev d)) = _
  rw [rev_rev]
  unfold land
  refine bigSep_congr fun i _ => ?_
  show _ = tDst c (jn i d)
  unfold tDst
  rw [ij_jn, ej_jn]

/-! ## The barrier -/

theorem step_bar (h : St m c K 7 ci wi pr true 0 rc xo oc ws wo ⊢ Wp c (k ⟨⟩) R) :
    St m c K 7 ci wi pr false 0 rc xo oc ws wo ⊢ Wp c (.op (.semWait barS 7) k) R := by
  unfold St
  rw [sBar_false]
  iintro ⟨#HR, #HL, ⟨%W, HO⟩, HS, ⟨Hcr, Hat⟩, Hrest⟩
  unfold pos
  iapply (Rounds.wp_wait_rest_token Variants.none ER (Rd m) (c : Thread nD τ) none (κ := K (c, kBar))
      (wpE_semWait_eq Variants.none (c : Thread nD τ) none Set.univ) (Set.mem_univ _) ()
      (O := owed c 7 0) (W := W) (R := 0) (m := 0) (T := ∅) (by rw [Nat.zero_add]; exact (Rd_expect_bar m c).symm)) $$ [Hcr HO Hat]
  · isplitr; · iapply (inv_at m K c kBar); iexact HR
    isplitl [Hcr]; · iexact Hcr
    isplitl [HO]; · iexact HO
    isplitr
    · iapply (mayWait_of c (csem kBar) 7 0 1 (lv_kc c kBar).le (fun h => by omega) (fun _ => by omega)); iexact HL
    iexact Hat
  iintro ⟨HO, Hat, -, Hpay⟩
  imod (Rounds.cell_close ER (Rd m) (Set.mem_univ (K (c, kBar))) (fun h => h) (R := 0 + 1) (Rd_duties_later m (kc c kBar))) $$ [Hat] with Hz
  · isplitr; · iapply (inv_at m K c kBar); iexact HR
    iexact Hat
  ihave Hpay := (show bigSep ((Rd (F := F) m).duties ((c : Thread nD τ), .reg barS) 0 \ ∅) (fun d => (Rd (F := F) m).payload ((c : Thread nD τ), .reg barS) 0 d)
    ⊢ fam 0 28 (tDst c) from Entails.of_eq ((Rd_rest_bar m c).trans (bar_pay c))) $$ Hpay
  iapply h
  unfold St
  rw [sBar_true]
  isplitr; · iexact HR
  isplitr; · iexact HL
  isplitl [HO]; · iexists _; iexact HO
  iframe

/-! ## Loads and stores -/

/-- A load of chunk `i` of the local copy. -/
theorem load_b (i : Fin 4) (f : S2x2048x512.Idx → Elt F .f32) {hl} {k : Vec F S2x512x512 .f32 → Prog (TpuEff nD τ sig (Elt F) Λ₀ .tc) α} :
    (bP c i f : sProp 𝕄) ⊢ iprop((bP c i f -∗ Wp c (k (bM.view.readAt (Elt F) (chR i).toLoadRect f)) R)
      -∗ Wp c (.op (.load bM (chR i).toLoadRect hl) k) R) := by
  unfold bP
  exact wp_load Variants.none (c : Thread nD τ) none Set.univ (m := bM) (r := (chR i).toLoadRect)
    (by rw [set_bC]; exact (Finset.map_refl : (chR i).set.map (Function.Embedding.refl _) = (chR i).set).le)

/-- A load of all eight slots of chunk `i`, at any share. -/
theorem load_c (i : Fin 4) (q : PosShare TreeShare) {hl} {k : Vec F S1x8x4x512 .bf16 → Prog (TpuEff nD τ sig (Elt F) Λ₀ .tc) α} :
    (bigSep Finset.univ fun l : Fin 8 => (cP c i l q (commF m c) : sProp 𝕄)) ⊢ iprop(((bigSep Finset.univ fun l : Fin 8 => (cP c i l q (commF m c) : sProp 𝕄)) -∗ Wp c (k (cs m c i)) R)
      -∗ Wp c (.op (.load cM (ccR i).toLoadRect hl) k) R) := by
  rw [← cc_slots]
  exact wp_load Variants.none (c : Thread nD τ) none Set.univ (m := cM) (r := (ccR i).toLoadRect) (Finset.Subset.refl _)

theorem half_sub_load (i : Fin 4) (h : Fin 2) : cM.view.setOn (hfR i h).toLoadRect.set ⊆ (cS i 7).view.set := by
  have e : cM.view.setOn (hfR i h).toLoadRect.set = (cM.access (hfR i h)).set :=
    (Finset.map_refl : (hfR i h).set.map (Function.Embedding.refl _) = (hfR i h).set).trans (View.set_slice_whole _ _).symm
  rw [e]; exact half_sub i h

/-- The two halves of slot 7 loaded and stored. -/
theorem store_c (i : Fin 4) {h1 h2 h3 h4 h5 h6} (f : S4x8x4x512.Idx → Elt F .bf16) :
    (cP c i 7 fullShare f : sProp 𝕄) ⊢ iprop((cP c i 7 fullShare (commF m c) -∗ Wp c (k ⟨⟩) R)
      -∗ Wp c (.op (.load cM (hfR i 0).toLoadRect h1) fun _ => .op (.store cM (hfR i 0) (k0_pay1 (xs m c i)) Finset.univ h2 h3) fun _ =>
          .op (.load cM (hfR i 1).toLoadRect h4) fun _ => .op (.store cM (hfR i 1) (k0_pay2 (xs m c i)) Finset.univ h5 h6) k) R) := by
  rw [← cP_stored m c i f]
  unfold cP
  iintro H Hk
  iapply (wp_load Variants.none (c : Thread nD τ) none Set.univ (m := cM) (r := (hfR i 0).toLoadRect) (half_sub_load i 0)) $$ H; iintro H
  iapply (wp_store Variants.none (c : Thread nD τ) none Set.univ (m := cM) (r := hfR i 0) (Mk := Finset.univ) (half_sub i 0)) $$ H; iintro H
  iapply (wp_load Variants.none (c : Thread nD τ) none Set.univ (m := cM) (r := (hfR i 1).toLoadRect) (half_sub_load i 1)) $$ H; iintro H
  iapply (wp_store Variants.none (c : Thread nD τ) none Set.univ (m := cM) (r := hfR i 1) (Mk := Finset.univ) (half_sub i 1)) $$ H; iintro H
  iapply Hk; iexact H

/-- The store of chunk `i` of the result. -/
theorem store_b (i : Fin 4) {h1 h2} (f : S2x2048x512.Idx → Elt F .f32) :
    (bP c i f : sProp 𝕄) ⊢ iprop((bP c i (outF m c) -∗ Wp c (k ⟨⟩) R)
      -∗ Wp c (.op (.store bM (chR i) (outC m c i) Finset.univ h1 h2) k) R) := by
  rw [← bP_stored m c i f]
  unfold bP
  exact wp_store Variants.none (c : Thread nD τ) none Set.univ (m := bM) (r := chR i) (Mk := Finset.univ)
    (show (bM.access (chR i)).set ⊆ (bC i).view.set by rw [set_bC])

/-! ## The staged operands -/

theorem hz2 : (![0, 0] : Fin 2 → Nat) = fun _ => 0 := funext fun a => by fin_cases a <;> rfl

theorem rd_t (hi) (f : (cc0_stg0_0 : Ref sig .tc).ty.Contents (Elt F)) :
    (Memref.whole cc0_stg0_0).view.readAt (Elt F) (Rect.unit (s := S2x128) ![0, 0] S2x128.size hi).toLoadRect f = f :=
  Memref.readAt_unit_zero (Elt F) cc0_stg0_0 hz2 _ f
theorem rd_sc (hi) (f : (cc0_stg1_0 : Ref sig .tc).ty.Contents (Elt F)) :
    (Memref.whole cc0_stg1_0).view.readAt (Elt F) (Rect.unit (s := S128x512) ![0, 0] S128x512.size hi).toLoadRect f = f :=
  Memref.readAt_unit_zero (Elt F) cc0_stg1_0 hz2 _ f
theorem rd_sh (hi) (f : (cc0_stg2_0 : Ref sig .tc).ty.Contents (Elt F)) :
    (Memref.whole cc0_stg2_0).view.readAt (Elt F) (Rect.unit (s := S128x512) ![0, 0] S128x512.size hi).toLoadRect f = f :=
  Memref.readAt_unit_zero (Elt F) cc0_stg2_0 hz2 _ f

theorem St_wins : St m c K sg ci wi pr br sd rc xo oc ws wo ⊢ iprop(wins m c ∗ (wins m c -∗ St m c K sg ci wi pr br sd rc xo oc ws wo)) := by
  unfold St
  iintro ⟨#HR, #HL, HO, HS, HB, HT, HI, HC, HA, HD, HX, HY, HI2, HC2, HA2, HD2, H7, HK7, HS7, HCs, HAs, HDs, HRt, HRd, HW⟩
  isplitl [HW]; · iexact HW
  iintro HW
  isplitr; · iexact HR
  isplitr; · iexact HL
  iframe

theorem step_t {hi hl} {k : Vec F S2x128 .f32 → Prog (TpuEff nD τ sig (Elt F) Λ₀ .tc) α}
    (h : St m c K sg ci wi pr br sd rc xo oc ws wo ⊢ Wp c (k (tW m c)) R) :
    St m c K sg ci wi pr br sd rc xo oc ws wo
      ⊢ Wp c (.op (.load (Memref.whole cc0_stg0_0) (Rect.unit (s := S2x128) ![0, 0] S2x128.size hi).toLoadRect hl) k) R := by
  iintro H
  ihave H := St_wins $$ H
  icases H with ⟨⟨H1, H2, H3⟩, Hk⟩
  iapply (wp_load Variants.none (c : Thread nD τ) none Set.univ (m := Memref.whole cc0_stg0_0) (Finset.subset_univ _)) $$ H1; iintro H1
  rw [rd_t]
  iapply h
  iapply Hk
  isplitl [H1]; · iexact H1
  isplitl [H2] <;> iassumption

theorem step_sc {hi hl} {k : Vec F S128x512 .f32 → Prog (TpuEff nD τ sig (Elt F) Λ₀ .tc) α}
    (h : St m c K sg ci wi pr br sd rc xo oc ws wo ⊢ Wp c (k (scW m c)) R) :
    St m c K sg ci wi pr br sd rc xo oc ws wo
      ⊢ Wp c (.op (.load (Memref.whole cc0_stg1_0) (Rect.unit (s := S128x512) ![0, 0] S128x512.size hi).toLoadRect hl) k) R := by
  iintro H
  ihave H := St_wins $$ H
  icases H with ⟨⟨H1, H2, H3⟩, Hk⟩
  iapply (wp_load Variants.none (c : Thread nD τ) none Set.univ (m := Memref.whole cc0_stg1_0) (Finset.subset_univ _)) $$ H2; iintro H2
  rw [rd_sc]
  iapply h
  iapply Hk
  isplitl [H1]; · iexact H1
  isplitl [H2] <;> iassumption

theorem step_sh {hi hl} {k : Vec F S128x512 .f32 → Prog (TpuEff nD τ sig (Elt F) Λ₀ .tc) α}
    (h : St m c K sg ci wi pr br sd rc xo oc ws wo ⊢ Wp c (k (shW m c)) R) :
    St m c K sg ci wi pr br sd rc xo oc ws wo
      ⊢ Wp c (.op (.load (Memref.whole cc0_stg2_0) (Rect.unit (s := S128x512) ![0, 0] S128x512.size hi).toLoadRect hl) k) R := by
  iintro H
  ihave H := St_wins $$ H
  icases H with ⟨⟨H1, H2, H3⟩, Hk⟩
  iapply (wp_load Variants.none (c : Thread nD τ) none Set.univ (m := Memref.whole cc0_stg2_0) (Finset.subset_univ _)) $$ H3; iintro H3
  rw [rd_sh]
  iapply h
  iapply Hk
  isplitl [H1]; · iexact H1
  isplitl [H2] <;> iassumption

/-! ## A chunk prepared -/

/-- Slot 7 stored: a share for each transfer, and one that stays. -/
theorem slot_shares (i : Fin 4) :
    (cP c i 7 fullShare (commF m c) : sProp 𝕄) = iprop(k7 m c i ∗ fam (7 * i.val) (7 * (i.val + 1)) (s7 m c)) := by
  rw [cP_leaves, bigSep_eight, fam_seven]
  refine congrArg (fun P => iprop(k7 m c i ∗ P)) (bigSep_congr fun e _ => ?_)
  unfold s7
  rw [ij_jn, ej_jn]

theorem step_prep (i : Fin 4) {h0 h1 h2 h3 h4 h5 h6} (hxo : xo ≤ i.val)
    (h : St m c K sg ci (i.val + 1) (i.val + 1) br (7 * i.val) rc xo oc ws wo ⊢ Wp c (k ⟨⟩) R) :
    St m c K sg ci (i.val + 1) i.val br (7 * i.val) rc xo oc ws wo
      ⊢ Wp c (.op (.load bM (chR i).toLoadRect h0) fun v =>
          .op (.load cM (hfR i 0).toLoadRect h1) fun _ => .op (.store cM (hfR i 0) (k0_pay1 v) Finset.univ h2 h3) fun _ =>
          .op (.load cM (hfR i 1).toLoadRect h4) fun _ => .op (.store cM (hfR i 1) (k0_pay2 v) Finset.univ h5 h6) k) R := by
  unfold St
  iintro ⟨#HR, #HL, HO, HS, HB, HT, HI, HC, HA, HD, HX, HY, HI2, HC2, HA2, HD2, H7, HK7, HS7, Hrest⟩
  ihave HX := (Entails.of_eq (show fam xo (i.val + 1) (bX m c) = iprop(bX m c i ∗ fam xo i.val (bX m c)) from
    Ring.bigSep_rangeSet_last (by omega) (by have := i.isLt; omega))) $$ HX
  icases HX with ⟨Hb, HX⟩
  iapply (load_b i (xA m c)) $$ Hb
  iintro Hb
  ihave HX := (fam_add (Φ := bX m c) i hxo) $$ [HX Hb]
  · isplitl [Hb]; · iexact Hb
    iexact HX
  ihave H7 := (fam_take i i.isLt) $$ H7
  icases H7 with ⟨⟨%f, H7i⟩, H7⟩
  iapply (store_c i f) $$ H7i
  iintro H7i
  ihave H7i := (Entails.of_eq (slot_shares i)) $$ H7i
  icases H7i with ⟨Hk, Hs⟩
  ihave HK7 := (fam_add (Φ := k7 m c) i (Nat.zero_le _)) $$ [HK7 Hk]
  · isplitl [Hk]; · iexact Hk
    iexact HK7
  iapply h
  unfold St
  isplitr; · iexact HR
  isplitr; · iexact HL
  ihave He := (Entails.of_eq (Ring.bigSep_rangeSet_empty (Φ := s7 m c) (le_refl (7 * i.val)))) $$ HS7
  iframe

/-! ## A chunk computed -/

omit [FloatOps F] in
theorem assoc_eq (P Q S : sProp 𝕄) : iprop((P ∗ Q) ∗ S) = iprop(P ∗ Q ∗ S) := equiv_iff.mp ⟨BI.sep_assoc, BI.sep_assoc'⟩
omit [FloatOps F] in
theorem left_comm_eq (P Q S : sProp 𝕄) : iprop(P ∗ Q ∗ S) = iprop(Q ∗ P ∗ S) :=
  (assoc_eq P Q S).symm.trans ((congrArg (fun A => iprop(A ∗ S)) (equiv_iff.mp ⟨BI.sep_comm, BI.sep_comm⟩)).trans (assoc_eq Q P S))

/-- What is left of the seven landed slots of chunk `i` when the share of slot 7 that is kept has been cut off each. -/
def rest7 (m : (ℓ : Loc nD τ sig) → Buf (Elt F) ℓ) (c : Dev nD) (i : Fin 4) (e : Fin 7) : sProp 𝕄 :=
  iprop(zer c (kRcv (jn i e)) ∗ bigSep Finset.univ fun l : Fin 7 => cP c i e.castSucc (lf l.castSucc) (commF m c))

theorem slots_eq (i : Fin 4) :
    iprop(k7 m c i ∗ fam (7 * i.val) (7 * (i.val + 1)) (dRcv m c))
      = iprop((bigSep Finset.univ fun l : Fin 8 => (cP c i l (lf 7) (commF m c) : sProp 𝕄)) ∗ bigSep Finset.univ (rest7 m c i)) := by
  rw [bigSep_eight, fam_seven]
  refine Eq.trans (congrArg (fun P => iprop(k7 m c i ∗ P)) ?_) (assoc_eq _ _ _).symm
  rw [← bigSep_sep']
  refine bigSep_congr fun e _ => ?_
  unfold rest7 dRcv r7
  rw [ij_jn, ej_jn, cP_leaves, bigSep_eight]
  exact left_comm_eq _ _ _

theorem St_comm (i : Fin 4) (hrc : 7 * (i.val + 1) ≤ rc) (hpr : i.val + 1 ≤ pr) :
    St m c K sg ci wi pr br sd rc xo oc ws wo
      ⊢ iprop((bigSep Finset.univ fun l : Fin 8 => (cP c i l (lf 7) (commF m c) : sProp 𝕄))
        ∗ ((bigSep Finset.univ fun l : Fin 8 => (cP c i l (lf 7) (commF m c) : sProp 𝕄)) -∗ St m c K sg ci wi pr br sd rc xo oc ws wo)) := by
  have e1 : fam 0 pr (k7 m c) = iprop(fam 0 i.val (k7 m c) ∗ fam i.val pr (k7 m c)) :=
    Ring.bigSep_rangeSet_split (Nat.zero_le _) (by omega)
  have e2 : fam i.val pr (k7 m c) = iprop(k7 m c i ∗ fam (i.val + 1) pr (k7 m c)) := Ring.bigSep_rangeSet_head (by omega) i.isLt
  have e3 := Ring.bigSep_rangeSet_take (Φ := dRcv m c) (Nat.zero_le (7 * i.val)) (show 7 * i.val ≤ 7 * (i.val + 1) by omega) hrc
  unfold St
  rw [e1, e2]
  iintro ⟨#HR, #HL, HO, HS, HB, HT, HI, HC, HA, HD, HX, HY, HI2, HC2, HA2, HD2, H7, ⟨Hk1, Hk, Hk2⟩, HS7, HCs, HAs, HDs, HRt, HRd, HW⟩
  ihave HRd := (Entails.of_eq e3) $$ HRd
  icases HRd with ⟨Hm, Ha, Hb⟩
  ihave H := (Entails.of_eq (slots_eq (m := m) (c := c) i)) $$ [Hk Hm]
  · isplitl [Hk] <;> iassumption
  icases H with ⟨H, Hr⟩
  isplitl [H]; · iexact H
  iintro H
  ihave H := (Entails.of_eq (slots_eq (m := m) (c := c) i).symm) $$ [H Hr]
  · isplitl [H] <;> iassumption
  icases H with ⟨Hk, Hm⟩
  ihave HRd := (Entails.of_eq e3.symm) $$ [Hm Ha Hb]
  · isplitl [Hm]; · iexact Hm
    isplitl [Ha] <;> iassumption
  isplitr; · iexact HR
  isplitr; · iexact HL
  iframe

/-- All eight slots of chunk `i` loaded. -/
theorem step_comm (i : Fin 4) {hl} {k : Vec F S1x8x4x512 .bf16 → Prog (TpuEff nD τ sig (Elt F) Λ₀ .tc) α}
    (hrc : 7 * (i.val + 1) ≤ rc) (hpr : i.val + 1 ≤ pr)
    (h : St m c K sg ci wi pr br sd rc xo oc ws wo ⊢ Wp c (k (cs m c i)) R) :
    St m c K sg ci wi pr br sd rc xo oc ws wo ⊢ Wp c (.op (.load cM (ccR i).toLoadRect hl) k) R := by
  iintro H
  ihave H := (St_comm i hrc hpr) $$ H
  icases H with ⟨H, Hk⟩
  iapply (load_c i (lf 7)) $$ H
  iintro H
  iapply h
  iapply Hk
  iexact H

/-- Chunk `i` of the local copy loaded, before it is overwritten. -/
theorem step_loadb (i : Fin 4) {hl} {k : Vec F S2x512x512 .f32 → Prog (TpuEff nD τ sig (Elt F) Λ₀ .tc) α} (hwi : i.val < wi)
    (h : St m c K sg ci wi pr br sd rc i.val oc ws wo ⊢ Wp c (k (xs m c i)) R) :
    St m c K sg ci wi pr br sd rc i.val oc ws wo ⊢ Wp c (.op (.load bM (chR i).toLoadRect hl) k) R := by
  have e : fam i.val wi (bX m c) = iprop(bX m c i ∗ fam (i.val + 1) wi (bX m c)) := Ring.bigSep_rangeSet_head hwi i.isLt
  unfold St
  iintro ⟨#HR, #HL, HO, HS, HB, HT, HI, HC, HA, HD, HX, Hrest⟩
  ihave HX := (Entails.of_eq e) $$ HX
  icases HX with ⟨Hb, HX⟩
  iapply (load_b i (xA m c)) $$ Hb
  iintro Hb
  ihave HX := (Entails.of_eq e.symm) $$ [HX Hb]
  · isplitl [Hb]; · iexact Hb
    iexact HX
  iapply h
  unfold St
  isplitr; · iexact HR
  isplitr; · iexact HL
  iframe

/-- Chunk `i` of the result stored. -/
theorem step_storeb (i : Fin 4) {h1 h2} {w : FVec F S2x512x512 .f32} (hw : w = outC m c i) (hwi : i.val < wi) (hoc : oc ≤ i.val)
    (h : St m c K sg ci wi pr br sd rc (i.val + 1) oc ws wo ⊢ Wp c (k ⟨⟩) R) :
    St m c K sg ci wi pr br sd rc i.val oc ws wo ⊢ Wp c (.op (.store bM (chR i) w Finset.univ h1 h2) k) R := by
  subst hw
  unfold St
  iintro ⟨#HR, #HL, HO, HS, HB, HT, HI, HC, HA, HD, HX, HY, Hrest⟩
  ihave HX := (fam_take i hwi) $$ HX
  icases HX with ⟨Hb, HX⟩
  iapply (store_b i (xA m c)) $$ Hb
  iintro Hb
  ihave HY := (fam_add (Φ := bO m c) i hoc) $$ [HY Hb]
  · isplitl [Hb]; · iexact Hb
    iexact HY
  iapply h
  unfold St
  isplitr; · iexact HR
  isplitr; · iexact HL
  iframe

end Cert.LN

end
-- ==== Proof.Ends.lean ====
/-
# The body's two ends

What the launch hands a device, as the state before the first operation; the state after the last, as whole buffers and
closed cells.
-/
module

public import proofs.«01_k».proof.Proof.Steps2

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kd → ℕ) (c : Dev nD)

/-! ## What a device starts with -/

omit [FloatOps F] in
/-- A family over a device's cells, by kind. -/
theorem kd_split (Φ : Kd → sProp 𝕄) :
    bigSep Finset.univ Φ = iprop(Φ kBar ∗ (bigSep Finset.univ fun i => Φ (kIn i)) ∗ (bigSep Finset.univ fun i => Φ (kOut i))
      ∗ (bigSep Finset.univ fun j => Φ (kSnd j)) ∗ bigSep Finset.univ fun j => Φ (kRcv j)) := by
  rw [bigSep_univ_sum, bigSep_univ_sum, bigSep_univ_sum, bigSep_univ_sum, show (Finset.univ : Finset Unit) = {()} from rfl, bigSep_singleton]
  rfl

omit [FloatOps F] in
/-- A family of families, the other way round. -/
theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

omit [FloatOps F] in
/-- A family at one contents is a family at some contents. -/
theorem some_contents {A B : Type} [Fintype A] (Ψ : A → B → sProp 𝕄) (f : B) :
    (bigSep Finset.univ fun a => Ψ a f) ⊢ bigSep Finset.univ fun a => iprop(∃ f, Ψ a f) :=
  bigSep_mono fun a _ => show Ψ a f ⊢ iprop(∃ f, Ψ a f) from by iintro H; iexists f; iexact H

/-- The tokens of the duties a device pays. -/
def payToks : sProp 𝕄 :=
  iprop((bigSep Finset.univ fun d : Fin 7 => dutyTok ER (kc (peer c d) kBar) 0 d)
    ∗ (bigSep Finset.univ fun i : Fin 4 => tok c (kIn i)) ∗ (bigSep Finset.univ fun i : Fin 4 => tok c (kOut i))
    ∗ (bigSep Finset.univ fun j : Fin 28 => tok c (kSnd j)) ∗ bigSep Finset.univ fun j : Fin 28 => tok (peer c (ej j)) (kRcv j))
/-- Its wait positions, and these. -/
def linear : sProp 𝕄 := iprop((bigSep Finset.univ fun k : Kd => pos c k) ∗ payToks c)
/-- The credit the launch gives it. -/
def crds : sProp 𝕄 := iprop(cred (tallyAt (kc c kBar) () 7) ∗ bigSep Finset.univ fun j : Fin 28 => crd c (kRcv j))

/-- The communication buffer, cut into its own slots and the landing slots, these by the peer they are given to. -/
theorem c_start (f : S4x8x4x512.Idx → Elt F .bf16) :
    (((c : Thread nD τ).loc cc0_scratch1) ↦{fullShare} f : sProp 𝕄)
      ⊢ iprop((bigSep Finset.univ fun i : Fin 4 => c7 c i) ∗ bigSep Finset.univ fun d : Fin 7 => land (peer c d) (rev d)) := by
  rw [c_slots, bigSep_univ_prod, bigSep_congr fun (i : Fin 4) _ => bigSep_eight fun k => (cP c i k fullShare f : sProp 𝕄), bigSep_sep', swap fun (i : Fin 4) (e : Fin 7) => (cP c i e.castSucc fullShare f : sProp 𝕄),
    bigSep_univ_equiv (⟨rev, rev, rev_rev, rev_rev⟩ : Fin 7 ≃ Fin 7)]
  iintro ⟨H7, HL⟩
  isplitl [H7]
  · iapply (some_contents (fun i f => (cP c i 7 fullShare f : sProp 𝕄)) f)
    iexact H7
  · iapply (show (bigSep Finset.univ fun d : Fin 7 => bigSep Finset.univ fun i : Fin 4 => (cP c i (rev d).castSucc fullShare f : sProp 𝕄))
        ⊢ bigSep Finset.univ fun d : Fin 7 => land (peer c d) (rev d) from bigSep_mono fun d _ => by
          unfold land
          rw [peer_rev]
          exact some_contents (fun i f => (cP c i (rev d).castSucc fullShare f : sProp 𝕄)) f)
    iexact HL

theorem St_intro (f : Buf (Elt F) ((c : Thread nD τ).loc cc0_scratch0)) (f' : Buf (Elt F) ((c : Thread nD τ).loc cc0_scratch1))
    (g : Buf (Elt F) ((c : Thread nD τ).loc main_v1)) :
    iprop(records m K ∗ levAts L lv ∗ linear c ∗ crds c ∗ (((c : Thread nD τ).loc main_arg0) ↦{fullShare} xA m c)
        ∗ (((c : Thread nD τ).loc main_v1) ↦{fullShare} g) ∗ (((c : Thread nD τ).loc cc0_scratch0) ↦{fullShare} f)
        ∗ (((c : Thread nD τ).loc cc0_scratch1) ↦{fullShare} f') ∗ (∃ W, owes (c : Thread nD τ) (owed c 0 0) W) ∗ wins m c)
      ⊢ St m c K 0 0 0 0 false 0 0 0 0 0 0 := by
  unfold linear payToks crds St
  rw [kd_split, x_chunks, y_chunks, b_chunks, sBar_false]
  iintro ⟨#HR, #HL, ⟨⟨HpB, HpI, HpO, HpS, HpR⟩, HtB, HtI, HtO, HtS, HtR⟩, ⟨HcB, HcR⟩, Hx, Hy, Hb, Hc, HO, HW⟩
  ihave Hc := (c_start c f') $$ Hc
  icases Hc with ⟨H7, Hl⟩
  isplitr; · iexact HR
  isplitr; · iexact HL
  isplitl [HO]; · iexact HO
  isplitl [HtB Hl]
  · rw [fam_all, bigSep_sep']; isplitl [HtB] <;> iassumption
  isplitl [HpB HcB]
  · isplitl [HcB] <;> iassumption
  isplitl [HtS HtR]
  · rw [fam_all, bigSep_sep']; isplitl [HtS] <;> iassumption
  isplitl [HtI Hx Hb]
  · rw [fam_all, bigSep_sep', bigSep_sep']
    isplitl [HtI]; · iexact HtI
    isplitl [Hx]; · iexact Hx
    iapply (some_contents (fun i f => (bP c i f : sProp 𝕄)) f)
    iexact Hb
  isplitr; · iapply (fam_nil 0); iempintro
  isplitl [HpI]; · rw [fam_all]; iexact HpI
  isplitr; · iapply (fam_nil 0); iempintro
  isplitr; · iapply (fam_nil 0); iempintro
  isplitr; · iapply (fam_nil 0); iempintro
  isplitl [HtO Hy]
  · rw [fam_all, bigSep_sep']
    isplitl [HtO]; · iexact HtO
    iapply (some_contents (fun i f => (yP c i f : sProp 𝕄)) g)
    iexact Hy
  isplitr; · iapply (fam_nil 0); iempintro
  isplitl [HpO]; · rw [fam_all]; iexact HpO
  isplitr; · iapply (fam_nil 0); iempintro
  isplitl [H7]; · rw [fam_all]; iexact H7
  isplitr; · iapply (fam_nil 0); iempintro
  isplitr; · iapply (fam_nil 0); iempintro
  isplitr; · iapply (fam_nil 0); iempintro
  isplitl [HpS]; · rw [fam_all]; iexact HpS
  isplitr; · iapply (fam_nil 0); iempintro
  isplitl [HcR HpR]
  · rw [fam_all, bigSep_sep']; isplitl [HcR] <;> iassumption
  isplitr; · iapply (fam_nil 0); iempintro
  iexact HW

/-! ## What it ends with -/

/-- The communication buffer put together: the own slots' eight shares and the landed slots. -/
theorem c_end :
    iprop((bigSep Finset.univ fun i : Fin 4 => k7 m c i) ∗ (bigSep Finset.univ fun j : Fin 28 => s7 m c j) ∗ bigSep Finset.univ fun j : Fin 28 => r7 m c j)
      ⊢ (((c : Thread nD τ).loc cc0_scratch1) ↦{fullShare} commF m c : sProp 𝕄) := by
  rw [c_slots, bigSep_univ_prod, bigSep_congr fun (i : Fin 4) _ => bigSep_eight fun k => (cP c i k fullShare (commF m c) : sProp 𝕄), bigSep_sep',
    bigSep_congr fun (i : Fin 4) _ => (cP_leaves c i 7 (commF m c)).trans (bigSep_eight _), bigSep_sep',
    bigSep_univ_equiv jEquiv, bigSep_univ_equiv jEquiv (fun j => r7 m c j), bigSep_univ_prod, bigSep_univ_prod]
  have hs : (bigSep Finset.univ fun i : Fin 4 => bigSep Finset.univ fun e : Fin 7 => s7 m c (jEquiv (i, e)))
      = bigSep Finset.univ fun i : Fin 4 => bigSep Finset.univ fun e : Fin 7 => (cP c i 7 (lf e.castSucc) (commF m c) : sProp 𝕄) :=
    bigSep_congr fun i _ => bigSep_congr fun e _ => by show s7 m c (jn i e) = _; unfold s7; rw [ij_jn, ej_jn]
  have hr : (bigSep Finset.univ fun i : Fin 4 => bigSep Finset.univ fun e : Fin 7 => r7 m c (jEquiv (i, e)))
      = bigSep Finset.univ fun i : Fin 4 => bigSep Finset.univ fun e : Fin 7 => (cP c i e.castSucc fullShare (commF m c) : sProp 𝕄) :=
    bigSep_congr fun i _ => bigSep_congr fun e _ => by show r7 m c (jn i e) = _; unfold r7; rw [ij_jn, ej_jn]
  rw [hs, hr]
  iintro ⟨H1, H2, H3⟩
  iframe

/-- After the body: the argument's slice as it was, the result, the scratch buffers, every cell closed at zero. -/
def ended : sProp 𝕄 :=
  iprop((((c : Thread nD τ).loc main_arg0) ↦{fullShare} xA m c) ∗ (((c : Thread nD τ).loc main_v1) ↦{fullShare} outF m c)
    ∗ (((c : Thread nD τ).loc cc0_scratch0) ↦{fullShare} outF m c) ∗ (((c : Thread nD τ).loc cc0_scratch1) ↦{fullShare} commF m c)
    ∗ bigSep Finset.univ fun k : Kd => zer c k)

theorem St_exit : St m c K 7 4 4 4 true 28 28 4 4 28 4 ⊢ iprop(ended m c ∗ (∃ W, owes (c : Thread nD τ) (0 : CellTallies nD τ sig Unit) W) ∗ wins m c) := by
  unfold St ended
  rw [kd_split, x_chunks, y_chunks, b_chunks, sBar_true, owed_last, fam_all (dIn m c), fam_all (dOut m c), fam_all (k7 m c), fam_all (dSnd m c), fam_all (dRcv m c)]
  unfold dIn dOut dSnd dRcv
  simp only [bigSep_sep']
  iintro ⟨-, -, HO, -, ⟨HzB, -⟩, -, -, -, -, ⟨HzI, Hx⟩, -, -, -, -, -, ⟨HzO, Hb, Hy⟩, -, Hk, -, -, -, ⟨HzS, Hs⟩, -, ⟨HzR, Hr⟩, HW⟩
  ihave Hc := (c_end m c) $$ [Hk Hs Hr]
  · isplitl [Hk]; · iexact Hk
    isplitl [Hs] <;> iassumption
  iframe

end Cert.LN

end
-- ==== Proof.Ghost.lean ====
/-
# The launch's set-up

The cells and the duty tokens the launch mints, and how they are dealt; the credit it gives.
-/
module

public import proofs.«01_k».proof.Proof.Ends

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cells and tokens -/

theorem ownSemFacts : Pipeline.OwnSemFacts cfg0.spec osem where
  isScoped := by decide
  inj := osem_injective
  disj := by decide

def allCells : Finset (GSem nD τ sig) := Finset.univ.map ⟨kcell, kcell_injective⟩

/-- The tokens of a device's cells: seven of its barrier's, one of every other's. -/
def tokOf (x : Dev nD × (Fin 7 ⊕ Own)) : GSem nD τ sig × ℕ × Fin 7 := match x.2 with
  | .inl d => (kc x.1 kBar, 0, d)
  | .inr o => (kc x.1 (.inr o), 0, 0)

theorem tokOf_injective : Function.Injective tokOf := by
  rintro ⟨c, a⟩ ⟨c', a'⟩ h
  rcases a with d | o <;> rcases a' with d' | o'
  · have h1 := kcell_injective (a₁ := (c, kBar)) (a₂ := (c', kBar)) (congrArg Prod.fst h)
    have h2 : d = d' := congrArg (fun x : GSem nD τ sig × ℕ × Fin 7 => x.2.2) h
    have h3 : c = c' := congrArg Prod.fst h1
    rw [h2, h3]
  · exact absurd (congrArg Prod.snd (kcell_injective (a₁ := (c, kBar)) (a₂ := (c', .inr o')) (congrArg Prod.fst h))) (fun e => by cases e)
  · exact absurd (congrArg Prod.snd (kcell_injective (a₁ := (c, .inr o)) (a₂ := (c', kBar)) (congrArg Prod.fst h))) (fun e => by cases e)
  · have h1 := kcell_injective (a₁ := (c, .inr o)) (a₂ := (c', .inr o')) (congrArg Prod.fst h)
    rw [Prod.mk.injEq, Sum.inr.injEq] at h1
    rw [h1.1, h1.2]

def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of device `c`'s own cells. -/
def toks : sProp 𝕄 :=
  iprop((bigSep Finset.univ fun d : Fin 7 => dutyTok ER (kc c kBar) 0 d) ∗ bigSep Finset.univ fun o : Own => tok c (.inr o))

/-- What the launch deals device `c`, -/
def G : sProp 𝕄 :=
  iprop((bigSep Finset.univ fun k : Kd => roundState ER (Rd m) (kcell (c, k)) 0)
    ∗ (bigSep Finset.univ fun k : Kd => iprop(atPos ER (kcell (c, k)) 0 ∅ 0 ∗ reached ER (kcell (c, k)) 0)) ∗ toks c)
/-- and what becomes of it once every cell's invariant stands. -/
def G' : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the launch's one semaphore outside a kernel. -/
theorem unscopedSems0_eq : (unscopedSems0 c : sProp 𝕄) = zer c kBar := by
  unfold unscopedSems0; rw [bigSep_eq_bigSepL_of_eq [SemLoc.reg barS] (by decide) (by decide)]; rfl

/-- All counters at zero, by kind and as the launch has them. -/
theorem zers_eq : (bigSep Finset.univ fun k : Kd => (zer c k : sProp 𝕄))
    = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]
  rfl

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zers_eq (F := F) c).symm) $$ [Hos Hus]
  · isplitl [Hus] <;> iassumption
  imod (show iprop((bigSep Finset.univ fun k : Kd => zer c k) ∗ bigSep Finset.univ fun k : Kd => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay -/

/-- Device and number, the device moved to the peer that the number names. -/
def toPeer {n : ℕ} (e : Fin n → Fin 7) : Dev nD × Fin n ≃ Dev nD × Fin n where
  toFun p := (peer p.1 (e p.2), p.2)
  invFun p := (peer p.1 (rev (e p.2)), p.2)
  left_inv p := Prod.ext (peer_rev _ _) rfl
  right_inv p := Prod.ext (peer_rev' _ _) rfl

omit [FloatOps F] in
theorem by_peer {n : ℕ} (e : Fin n → Fin 7) (Φ : Dev nD → Fin n → sProp 𝕄) :
    (bigSep Finset.univ fun c => bigSep Finset.univ fun j => Φ c j) = bigSep Finset.univ fun c => bigSep Finset.univ fun j => Φ (peer c (e j)) j := by
  rw [← bigSep_univ_prod (fun p : Dev nD × Fin n => Φ p.1 p.2), bigSep_univ_equiv (toPeer e), bigSep_univ_prod]; rfl

theorem toks_dealt : (bigSep Finset.univ fun c : Dev nD => (toks c : sProp 𝕄)) ⊢ bigSep Finset.univ fun c : Dev nD => payToks c := by
  unfold toks payToks
  have h : ∀ c : Dev nD, (bigSep Finset.univ fun o : Own => (tok c (.inr o) : sProp 𝕄)) = iprop((bigSep Finset.univ fun i => tok c (kIn i))
      ∗ (bigSep Finset.univ fun i => tok c (kOut i)) ∗ (bigSep Finset.univ fun j => tok c (kSnd j)) ∗ bigSep Finset.univ fun j => tok c (kRcv j)) := fun c => by
    rw [bigSep_univ_sum, bigSep_univ_sum, bigSep_univ_sum]; rfl
  simp only [h, bigSep_sep']
  rw [by_peer id (fun c d => (dutyTok ER (kc c kBar) 0 d : sProp 𝕄)), by_peer ej (fun c j => (tok c (kRcv j) : sProp 𝕄))]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Kd => iprop(∃ κ : ℕ, cellInv ER (Rd m) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m) κ (kcell ck) : sProp 𝕄))) $$ HI
  icases HK with ⟨%K, #HI⟩
  ihave Htk := (toks_dealt (F := F)) $$ Htok
  iapply (with_persistent (R := records m K) (Φ := fun c => linear c) fun c _ =>
    show iprop(records m K ∗ linear c) ⊢ G' m c from by unfold G'; iintro H; iexists K; iexact H)
  isplitr
  · unfold records; isplitl; · iexact HI
    iexact HR
  · unfold linear
    rw [bigSep_sep']
    isplitl [Hat]; · iexact Hat
    iexact Htk

/-- Every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

abbrev O₀ (c : Dev nD) : CellTallies nD τ sig Unit := owed c 0 0

theorem peer_eq_iff (d c : Dev nD) (e : Fin 7) : peer d e = c ↔ d = peer c (rev e) :=
  ⟨fun h => h ▸ (peer_rev d e).symm, fun h => h ▸ peer_rev' c e⟩

theorem kc_eq_iff (c c' : Dev nD) (k k' : Kd) : kc c k = kc c' k' ↔ c = c' ∧ k = k' :=
  ⟨fun h => Prod.mk.injEq .. ▸ kcell_injective (a₁ := (c, k)) (a₂ := (c', k')) h, fun h => by rw [h.1, h.2]⟩

theorem tally_peer (d c : Dev nD) (e : Fin 7) (k k' : Kd) (n : ℕ) :
    (tallyAt (kc (peer d e) k') () n : CellTallies nD τ sig Unit) (kc c k) () = if d = peer c (rev e) ∧ k = k' then n else 0 := by
  have h : (kc c k = kc (peer d e) k' ∧ () = ()) ↔ (d = peer c (rev e) ∧ k = k') := by
    rw [kc_eq_iff, ← peer_eq_iff]
    exact ⟨fun h => ⟨h.1.1.symm, h.1.2⟩, fun h => ⟨⟨h.1.symm, h.2⟩, rfl⟩⟩
  rw [tallyAt_apply]
  by_cases hp : kc c k = kc (peer d e) k' ∧ () = ()
  · rw [if_pos hp, if_pos (h.mp hp)]
  · rw [if_neg hp, if_neg (fun q => hp (h.mpr q))]

/-- What device `d` owes a cell of device `c`. -/
theorem owed_at (d c : Dev nD) (k : Kd) :
    O₀ d (kc c k) () = (∑ e : Fin 7, if d = peer c (rev e) ∧ k = kBar then 1 else 0)
      + ∑ b : Fin 28, if d = peer c (rev (ej b)) ∧ k = kRcv b then amt (kRcv b) else 0 := by
  unfold O₀ owed
  rw [Ring.rangeSet_univ, Ring.rangeSet_univ, Pi.add_apply, Finsupp.add_apply, Finset.sum_apply, Finset.sum_apply, Finsupp.finset_sum_apply, Finsupp.finset_sum_apply]
  exact congrArg₂ (· + ·) (Finset.sum_congr rfl fun e _ => tally_peer d c e k kBar 1)
    (Finset.sum_congr rfl fun b _ => tally_peer d c (ej b) k (kRcv b) _)

theorem launch_bar : (∑ d : Dev nD, O₀ d (kc c kBar) ()) = 7 := by
  rw [Finset.sum_congr rfl fun d _ => owed_at d c kBar, Finset.sum_add_distrib, Finset.sum_comm]
  simp

theorem launch_rcv (j : Fin 28) : (∑ d : Dev nD, O₀ d (kc c (kRcv j)) ()) = amt (kRcv j) := by
  rw [Finset.sum_congr rfl fun d _ => owed_at d c (kRcv j), Finset.sum_add_distrib, Finset.sum_comm]
  rw [Finset.sum_comm (s := Finset.univ (α := Dev nD)) (t := Finset.univ (α := Fin 28)),
    Finset.sum_eq_single (s := Finset.univ (α := Fin 28)) j (fun b _ hb => Finset.sum_eq_zero fun d _ => if_neg fun h => hb (by simpa using h.2.symm)) (fun h => absurd (Finset.mem_univ j) h)]
  simp

theorem creds : (Pipeline.launchCred O₀ c : sProp 𝕄) ⊢ crds c := by
  have hk (k : Kd) (n : ℕ) (h : (∑ d : Dev nD, O₀ d (kc c k) ()) = n) :
      tallyOn (kc c k) (launchCredit (Pipeline.owing O₀) 0 (kc c k)) = (tallyAt (kc c k) () n : CellTallies nD τ sig Unit) := by
    unfold tallyAt; refine congrArg _ (Finsupp.ext fun u => ?_); cases u
    rw [Pipeline.launchCredit_owing, Finsupp.single_eq_same, h]
  have hs : (Pipeline.launchCred O₀ c : sProp 𝕄)
      ⊢ bigSep Finset.univ fun k : Kd => cred (tallyOn (kc c k) (launchCredit (Pipeline.owing O₀) 0 (kc c k))) := by
    unfold Pipeline.launchCred
    refine (bigSep_subset (Finset.subset_univ (Finset.univ.map ⟨csem, csem_injective⟩))).trans ?_
    rw [bigSep_map]
    exact BI.Entails.refl _
  refine hs.trans ?_
  rw [kd_split, hk kBar 7 (launch_bar c), bigSep_congr fun (j : Fin 28) _ => congrArg cred (hk (kRcv j) _ (launch_rcv c j))]
  unfold crds
  iintro ⟨H1, -, -, -, H2⟩
  isplitl [H1] <;> iassumption

end Cert.LN

end
-- ==== Proof.Body.lean ====
module

public import proofs.«01_k».proof.Proof.Steps2

@[expose] public section

noncomputable section

/-! # The kernel's body, from its first operation to its last -/

namespace Cert.LN

open Cert.KernelIdeal Cert.KernelIdeal.Gen

open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α β : Type} {c : Dev nD} {P P' : sProp (MT nD τ sig Unit (Elt F) ℕ UU ℕ)}

/-- A part of the body that leaves `P'`, and what follows from `P'` whatever the part returned. -/
theorem then_part {p : Prog (TpuEff nD τ sig (Elt F) Λ₀ .tc) α} {k : α → Prog (TpuEff nD τ sig (Elt F) Λ₀ .tc) β}
    {R : β → sProp (MT nD τ sig Unit (Elt F) ℕ UU ℕ)}
    (h1 : P ⊢ Wp c p (fun _ => P')) (h2 : ∀ a, P' ⊢ Wp c (k a) R) : P ⊢ Wp c (p >>= k) R := by
  show P ⊢ wp _ _ _ (p >>= k) R
  rw [wp_bind]
  exact h1.trans (wp_mono _ _ _ fun a => h2 a)

/-- The same where something about the value returned matters. -/
theorem then_part_of {p : Prog (TpuEff nD τ sig (Elt F) Λ₀ .tc) α} {k : α → Prog (TpuEff nD τ sig (Elt F) Λ₀ .tc) β}
    {R : β → sProp (MT nD τ sig Unit (Elt F) ℕ UU ℕ)} {φ : α → Prop}
    (h1 : P ⊢ Wp c p (fun r => iprop(⌜φ r⌝ ∗ P'))) (h2 : ∀ a, φ a → (P' ⊢ Wp c (k a) R)) : P ⊢ Wp c (p >>= k) R := by
  show P ⊢ wp _ _ _ (p >>= k) R
  rw [wp_bind]
  refine h1.trans (wp_mono _ _ _ fun a => ?_)
  iintro ⟨%e, H⟩
  iapply (h2 a e)
  iexact H

/-- The end of a part, -/
theorem done {v : α} : P ⊢ Wp c (.ret v) (fun _ => P) := by
  show P ⊢ wp _ _ _ _ _
  rw [wp_ret]
  iintro H
  imodintro
  iexact H

/-- and with what is known of its value. -/
theorem done_of {v : α} {φ : α → Prop} (h : φ v) : P ⊢ Wp c (.ret v) (fun r => iprop(⌜φ r⌝ ∗ P)) := by
  show P ⊢ wp _ _ _ _ _
  rw [wp_ret]
  iintro H
  imodintro
  isplitr
  · ipureintro; exact h
  iexact H

/-- A part of the body at the launch's buffers and semaphores. -/
abbrev onBufs {β : Sort*} (p : ∀ (a0 : Memref sig .tc .hbm S2x2048x512 .f32) (_ : a0.IsWhole) (a1 : Memref sig .tc .vmem S2x128 .f32) (_ : a1.IsWhole)
    (a2 : Memref sig .tc .vmem S128x512 .f32) (_ : a2.IsWhole) (a3 : Memref sig .tc .vmem S128x512 .f32) (_ : a3.IsWhole)
    (a4 : Memref sig .tc .hbm S2x2048x512 .f32) (_ : a4.IsWhole) (a5 : Memref sig .tc .vmem S2x2048x512 .f32) (_ : a5.IsWhole)
    (a6 : Memref sig .tc .vmem S4x8x4x512 .bf16) (_ : a6.IsWhole) (_ : DmaSems sig S4) (_ : DmaSems sig S4) (_ : DmaSems sig S4x7) (_ : DmaSems sig S4x7), β) : β :=
  p xM (Memref.isWhole_whole _) (Memref.whole cc0_stg0_0) (Memref.isWhole_whole _) (Memref.whole cc0_stg1_0) (Memref.isWhole_whole _)
    (Memref.whole cc0_stg2_0) (Memref.isWhole_whole _) yM (Memref.isWhole_whole _) bM (Memref.isWhole_whole _) cM (Memref.isWhole_whole _)
    cc0_scratch2 cc0_scratch3 cc0_scratch4 cc0_scratch5

/-- The barrier's semaphore, as the body holds it. -/
abbrev barA : Sems sig S_ := SemArray.scalar (sig.barrier 0 rfl)

variable (m : (ℓ : Loc nD τ sig) → Buf (Elt F) ℓ) (c : Dev nD) (K : Dev nD × Kd → ℕ)

theorem part1 : St m c K 0 0 0 0 false 0 0 0 0 0 0 ⊢ Wp c (onBufs (k0_part1 (F := F))) (fun r => iprop(⌜r.1 = c ∧ r.2.2.1 = barA⌝ ∗ St m c K 5 0 0 0 false 0 0 0 0 0 0)) := by
  rw [k0_part1_eq_skeleton]; unfold k0_part1_skel
  simp only [semSignalWord, semWaitWord, Prog.lift, Prog.bind_op, Prog.bind_ret, Prog.pure_eq_ret, wp_deviceId]
  refine step_sig 0 _ (Fin.ext (k0_dev1_eq c)) ?_
  refine step_sig 1 _ (Fin.ext (k0_dev2_eq c)) ?_
  refine step_sig 2 _ (Fin.ext (k0_dev3_eq c)) ?_
  refine step_sig 3 _ (Fin.ext (k0_dev4_eq c)) ?_
  refine step_sig 4 _ (Fin.ext (k0_dev5_eq c)) ?_
  exact done_of ⟨rfl, rfl⟩

theorem part2 (v2 v24 v)  : St m c K 5 0 0 0 false 0 0 0 0 0 0 ⊢ Wp c (onBufs (k0_part2 (F := F)) c v2 barA v24 v) (fun _ => St m c K 7 3 0 0 false 0 0 0 0 0 0) := by
  rw [k0_part2_eq_skeleton]; unfold k0_part2_skel
  simp only [semSignalWord, semWaitWord, Prog.lift, Prog.bind_op, Prog.bind_ret, Prog.pure_eq_ret, wp_deviceId]
  refine step_sig 5 _ (Fin.ext (k0_dev6_eq c)) ?_
  refine step_sig 6 _ (Fin.ext (k0_dev7_eq c)) ?_
  refine step_in 0 rfl rfl rfl (by decide) ?_
  refine step_in 1 rfl rfl rfl (by decide) ?_
  refine step_in 2 rfl rfl rfl (by decide) ?_
  exact done

theorem part3 (v2)  : St m c K 7 3 0 0 false 0 0 0 0 0 0 ⊢ Wp c (onBufs (k0_part3 (F := F)) v2 barA) (fun _ => St m c K 7 4 1 1 true 0 0 0 0 0 0) := by
  rw [k0_part3_eq_skeleton]; unfold k0_part3_skel
  simp only [semSignalWord, semWaitWord, Prog.lift, Prog.bind_op, Prog.bind_ret, Prog.pure_eq_ret, wp_deviceId]
  refine step_in 3 rfl rfl rfl (by decide) ?_
  refine step_win 0 rfl (by decide) (by decide) ?_
  refine step_prep 0 (by decide) ?_
  refine step_bar ?_
  exact done

theorem part4 (v2 v65 v) : St m c K 7 4 1 1 true 0 0 0 0 0 0 ⊢ Wp c (onBufs (k0_part4 (F := F)) c v2 v65 v) (fun _ => St m c K 7 4 1 1 true 2 0 0 0 0 0) := by
  rw [k0_part4_eq_skeleton]; unfold k0_part4_skel
  simp only [semSignalWord, semWaitWord, Prog.lift, Prog.bind_op, Prog.bind_ret, Prog.pure_eq_ret, wp_deviceId]
  refine step_snd 0 _ (Fin.ext (k0_dev8_eq c)) (by decide) (by decide) ?_
  refine step_snd 1 _ (Fin.ext (k0_dev9_eq c)) (by decide) (by decide) ?_
  exact done

theorem part5 (v2 v90 v) : St m c K 7 4 1 1 true 2 0 0 0 0 0 ⊢ Wp c (onBufs (k0_part5 (F := F)) c v2 v90 v) (fun _ => St m c K 7 4 1 1 true 4 0 0 0 0 0) := by
  rw [k0_part5_eq_skeleton]; unfold k0_part5_skel
  simp only [semSignalWord, semWaitWord, Prog.lift, Prog.bind_op, Prog.bind_ret, Prog.pure_eq_ret, wp_deviceId]
  refine step_snd 2 _ (Fin.ext (k0_dev10_eq c)) (by decide) (by decide) ?_
  refine step_snd 3 _ (Fin.ext (k0_dev11_eq c)) (by decide) (by decide) ?_
  exact done

theorem part6 (v2) : St m c K 7 4 1 1 true 4 0 0 0 0 0 ⊢ Wp c (onBufs (k0_part6 (F := F)) c v2) (fun _ => St m c K 7 4 1 1 true 6 0 0 0 0 0) := by
  rw [k0_part6_eq_skeleton]; unfold k0_part6_skel
  simp only [semSignalWord, semWaitWord, Prog.lift, Prog.bind_op, Prog.bind_ret, Prog.pure_eq_ret, wp_deviceId]
  refine step_snd 4 _ (Fin.ext (k0_dev12_eq c)) (by decide) (by decide) ?_
  refine step_snd 5 _ (Fin.ext (k0_dev13_eq c)) (by decide) (by decide) ?_
  exact done

theorem part7 (v2) : St m c K 7 4 1 1 true 6 0 0 0 0 0 ⊢ Wp c (onBufs (k0_part7 (F := F)) c v2) (fun _ => St m c K 7 4 2 2 true 7 0 0 0 0 0) := by
  rw [k0_part7_eq_skeleton]; unfold k0_part7_skel
  simp only [semSignalWord, semWaitWord, Prog.lift, Prog.bind_op, Prog.bind_ret, Prog.pure_eq_ret, wp_deviceId]
  refine step_snd 6 _ (Fin.ext (k0_dev14_eq c)) (by decide) (by decide) ?_
  refine step_win 1 rfl (by decide) (by decide) ?_
  refine step_prep 1 (by decide) ?_
  exact done

theorem part8 (v2 v165) : St m c K 7 4 2 2 true 7 0 0 0 0 0 ⊢ Wp c (onBufs (k0_part8 (F := F)) c v2 v165) (fun _ => St m c K 7 4 2 2 true 9 0 0 0 0 0) := by
  rw [k0_part8_eq_skeleton]; unfold k0_part8_skel
  simp only [semSignalWord, semWaitWord, Prog.lift, Prog.bind_op, Prog.bind_ret, Prog.pure_eq_ret, wp_deviceId]
  refine step_snd 7 _ (Fin.ext (k0_dev15_eq c)) (by decide) (by decide) ?_
  refine step_snd 8 _ (Fin.ext (k0_dev16_eq c)) (by decide) (by decide) ?_
  exact done

theorem part9 (v2 v189 v) : St m c K 7 4 2 2 true 9 0 0 0 0 0 ⊢ Wp c (onBufs (k0_part9 (F := F)) c v2 v189 v) (fun _ => St m c K 7 4 2 2 true 11 0 0 0 0 0) := by
  rw [k0_part9_eq_skeleton]; unfold k0_part9_skel
  simp only [semSignalWord, semWaitWord, Prog.lift, Prog.bind_op, Prog.bind_ret, Prog.pure_eq_ret, wp_deviceId]
  refine step_snd 9 _ (Fin.ext (k0_dev17_eq c)) (by decide) (by decide) ?_
  refine step_snd 10 _ (Fin.ext (k0_dev18_eq c)) (by decide) (by decide) ?_
  exact done

theorem part10 (v2 v214 v) : St m c K 7 4 2 2 true 11 0 0 0 0 0 ⊢ Wp c (onBufs (k0_part10 (F := F)) c v2 v214 v) (fun _ => St m c K 7 4 2 2 true 13 0 0 0 0 0) := by
  rw [k0_part10_eq_skeleton]; unfold k0_part10_skel
  simp only [semSignalWord, semWaitWord, Prog.lift, Prog.bind_op, Prog.bind_ret, Prog.pure_eq_ret, wp_deviceId]
  refine step_snd 11 _ (Fin.ext (k0_dev19_eq c)) (by decide) (by decide) ?_
  refine step_snd 12 _ (Fin.ext (k0_dev20_eq c)) (by decide) (by decide) ?_
  exact done

theorem part11 (v2) : St m c K 7 4 2 2 true 13 0 0 0 0 0 ⊢ Wp c (onBufs (k0_part11 (F := F)) c v2) (fun _ => St m c K 7 4 3 3 true 14 0 0 0 0 0) := by
  rw [k0_part11_eq_skeleton]; unfold k0_part11_skel
  simp only [semSignalWord, semWaitWord, Prog.lift, Prog.bind_op, Prog.bind_ret, Prog.pure_eq_ret, wp_deviceId]
  refine step_snd 13 _ (Fin.ext (k0_dev21_eq c)) (by decide) (by decide) ?_
  refine step_win 2 rfl (by decide) (by decide) ?_
  refine step_prep 2 (by decide) ?_
  exact done

theorem part12 (v2 v265) : St m c K 7 4 3 3 true 14 0 0 0 0 0 ⊢ Wp c (onBufs (k0_part12 (F := F)) c v2 v265) (fun _ => St m c K 7 4 3 3 true 16 0 0 0 0 0) := by
  rw [k0_part12_eq_skeleton]; unfold k0_part12_skel
  simp only [semSignalWord, semWaitWord, Prog.lift, Prog.bind_op, Prog.bind_ret, Prog.pure_eq_ret, wp_deviceId]
  refine step_snd 14 _ (Fin.ext (k0_dev22_eq c)) (by decide) (by decide) ?_
  refine step_snd 15 _ (Fin.ext (k0_dev23_eq c)) (by decide) (by decide) ?_
  exact done

theorem part13 (v2 v289) : St m c K 7 4 3 3 true 16 0 0 0 0 0 ⊢ Wp c (onBufs (k0_part13 (F := F)) c v2 v289) (fun _ => St m c K 7 4 3 3 true 18 0 0 0 0 0) := by
  rw [k0_part13_eq_skeleton]; unfold k0_part13_skel
  simp only [semSignalWord, semWaitWord, Prog.lift, Prog.bind_op, Prog.bind_ret, Prog.pure_eq_ret, wp_deviceId]
  refine step_snd 16 _ (Fin.ext (k0_dev24_eq c)) (by decide) (by decide) ?_
  refine step_snd 17 _ (Fin.ext (k0_dev25_eq c)) (by decide) (by decide) ?_
  exact done

theorem part14 (v2 v313 v) : St m c K 7 4 3 3 true 18 0 0 0 0 0 ⊢ Wp c (onBufs (k0_part14 (F := F)) c v2 v313 v) (fun _ => St m c K 7 4 3 3 true 20 0 0 0 0 0) := by
  rw [k0_part14_eq_skeleton]; unfold k0_part14_skel
  simp only [semSignalWord, semWaitWord, Prog.lift, Prog.bind_op, Prog.bind_ret, Prog.pure_eq_ret, wp_deviceId]
  refine step_snd 18 _ (Fin.ext (k0_dev26_eq c)) (by decide) (by decide) ?_
  refine step_snd 19 _ (Fin.ext (k0_dev27_eq c)) (by decide) (by decide) ?_
  exact done

theorem part15 (v2 v338 v) : St m c K 7 4 3 3 true 20 0 0 0 0 0 ⊢ Wp c (onBufs (k0_part15 (F := F)) c v2 v338 v) (fun _ => St m c K 7 4 4 4 true 21 0 0 0 0 0) := by
  rw [k0_part15_eq_skeleton]; unfold k0_part15_skel
  simp only [semSignalWord, semWaitWord, Prog.lift, Prog.bind_op, Prog.bind_ret, Prog.pure_eq_ret, wp_deviceId]
  refine step_snd 20 _ (Fin.ext (k0_dev28_eq c)) (by decide) (by decide) ?_
  refine step_win 3 rfl (by decide) (by decide) ?_
  refine step_prep 3 (by decide) ?_
  exact done

theorem part16 (v2 v365) : St m c K 7 4 4 4 true 21 0 0 0 0 0 ⊢ Wp c (onBufs (k0_part16 (F := F)) c v2 v365) (fun _ => St m c K 7 4 4 4 true 23 0 0 0 0 0) := by
  rw [k0_part16_eq_skeleton]; unfold k0_part16_skel
  simp only [semSignalWord, semWaitWord, Prog.lift, Prog.bind_op, Prog.bind_ret, Prog.pure_eq_ret, wp_deviceId]
  refine step_snd 21 _ (Fin.ext (k0_dev29_eq c)) (by decide) (by decide) ?_
  refine step_snd 22 _ (Fin.ext (k0_dev30_eq c)) (by decide) (by decide) ?_
  exact done

theorem part17 (v2 v389) : St m c K 7 4 4 4 true 23 0 0 0 0 0 ⊢ Wp c (onBufs (k0_part17 (F := F)) c v2 v389) (fun _ => St m c K 7 4 4 4 true 25 0 0 0 0 0) := by
  rw [k0_part17_eq_skeleton]; unfold k0_part17_skel
  simp only [semSignalWord, semWaitWord, Prog.lift, Prog.bind_op, Prog.bind_ret, Prog.pure_eq_ret, wp_deviceId]
  refine step_snd 23 _ (Fin.ext (k0_dev31_eq c)) (by decide) (by decide) ?_
  refine step_snd 24 _ (Fin.ext (k0_dev32_eq c)) (by decide) (by decide) ?_
  exact done

theorem part18 (v2 v413) : St m c K 7 4 4 4 true 25 0 0 0 0 0 ⊢ Wp c (onBufs (k0_part18 (F := F)) c v2 v413) (fun _ => St m c K 7 4 4 4 true 27 0 0 0 0 0) := by
  rw [k0_part18_eq_skeleton]; unfold k0_part18_skel
  simp only [semSignalWord, semWaitWord, Prog.lift, Prog.bind_op, Prog.bind_ret, Prog.pure_eq_ret, wp_deviceId]
  refine step_snd 25 _ (Fin.ext (k0_dev33_eq c)) (by decide) (by decide) ?_
  refine step_snd 26 _ (Fin.ext (k0_dev34_eq c)) (by decide) (by decide) ?_
  exact done

theorem part19 (v2 v437 v) : St m c K 7 4 4 4 true 27 0 0 0 0 0 ⊢ Wp c (onBufs (k0_part19 (F := F)) c v2 v437 v) (fun r => iprop(⌜r = ⟨osc m c, shf m c⟩⌝ ∗ St m c K 7 4 4 4 true 28 0 0 0 0 0)) := by
  rw [k0_part19_eq_skeleton]; unfold k0_part19_skel
  simp only [semSignalWord, semWaitWord, Prog.lift, Prog.bind_op, Prog.bind_ret, Prog.pure_eq_ret, wp_deviceId]
  refine step_snd 27 _ (Fin.ext (k0_dev35_eq c)) (by decide) (by decide) ?_
  refine step_t ?_
  refine step_sc ?_
  refine step_sh ?_
  exact done_of rfl

theorem part20 (v2) : St m c K 7 4 4 4 true 28 0 0 0 0 0 ⊢ Wp c (onBufs (k0_part20 (F := F)) v2) (fun _ => St m c K 7 4 4 4 true 28 3 0 0 0 0) := by
  rw [k0_part20_eq_skeleton]; unfold k0_part20_skel
  simp only [semSignalWord, semWaitWord, Prog.lift, Prog.bind_op, Prog.bind_ret, Prog.pure_eq_ret, wp_deviceId]
  refine step_wrcv 0 rfl ?_
  refine step_wrcv 1 rfl ?_
  refine step_wrcv 2 rfl ?_
  exact done

theorem part21 (v2 v489) : St m c K 7 4 4 4 true 28 3 0 0 0 0 ⊢ Wp c (onBufs (k0_part21 (F := F)) v2 v489) (fun _ => St m c K 7 4 4 4 true 28 5 0 0 0 0) := by
  rw [k0_part21_eq_skeleton]; unfold k0_part21_skel
  simp only [semSignalWord, semWaitWord, Prog.lift, Prog.bind_op, Prog.bind_ret, Prog.pure_eq_ret, wp_deviceId]
  refine step_wrcv 3 rfl ?_
  refine step_wrcv 4 rfl ?_
  exact done

theorem part22 (v2 v509) : St m c K 7 4 4 4 true 28 5 0 0 0 0 ⊢ Wp c (onBufs (k0_part22 (F := F)) v2 v509) (fun r => iprop(⌜r = ⟨k0_pay13 (cs m c 0), k0_pay14 (cs m c 0), k0_pay15⟩⌝ ∗ St m c K 7 4 4 4 true 28 7 0 0 0 0)) := by
  rw [k0_part22_eq_skeleton]; unfold k0_part22_skel
  simp only [semSignalWord, semWaitWord, Prog.lift, Prog.bind_op, Prog.bind_ret, Prog.pure_eq_ret, wp_deviceId]
  refine step_wrcv 5 rfl ?_
  refine step_wrcv 6 rfl ?_
  refine step_comm 0 (by decide) (by decide) ?_
  exact done_of rfl

theorem part23 (v2) : St m c K 7 4 4 4 true 28 7 0 0 0 0 ⊢ Wp c (onBufs (k0_part23 (F := F)) v2 (osc m c) (shf m c) (k0_pay13 (cs m c 0)) (k0_pay14 (cs m c 0)) k0_pay15) (fun _ => St m c K 7 4 4 4 true 28 7 1 1 0 0) := by
  rw [k0_part23_eq_skeleton]; unfold k0_part23_skel
  simp only [semSignalWord, semWaitWord, Prog.lift, Prog.bind_op, Prog.bind_ret, Prog.pure_eq_ret, wp_deviceId]
  refine step_loadb 0 (by decide) ?_
  refine step_loadb 0 (by decide) ?_
  refine step_storeb 0 rfl (by decide) (by decide) ?_
  refine step_out 0 rfl rfl rfl (by decide) (by decide) ?_
  exact done

theorem part24 (v2) : St m c K 7 4 4 4 true 28 7 1 1 0 0 ⊢ Wp c (onBufs (k0_part24 (F := F)) v2) (fun _ => St m c K 7 4 4 4 true 28 9 1 1 0 0) := by
  rw [k0_part24_eq_skeleton]; unfold k0_part24_skel
  simp only [semSignalWord, semWaitWord, Prog.lift, Prog.bind_op, Prog.bind_ret, Prog.pure_eq_ret, wp_deviceId]
  refine step_wrcv 7 rfl ?_
  refine step_wrcv 8 rfl ?_
  exact done

theorem part25 (v2) : St m c K 7 4 4 4 true 28 9 1 1 0 0 ⊢ Wp c (onBufs (k0_part25 (F := F)) v2) (fun _ => St m c K 7 4 4 4 true 28 12 1 1 0 0) := by
  rw [k0_part25_eq_skeleton]; unfold k0_part25_skel
  simp only [semSignalWord, semWaitWord, Prog.lift, Prog.bind_op, Prog.bind_ret, Prog.pure_eq_ret, wp_deviceId]
  refine step_wrcv 9 rfl ?_
  refine step_wrcv 10 rfl ?_
  refine step_wrcv 11 rfl ?_
  exact done

theorem part26 (v2 v613 v) : St m c K 7 4 4 4 true 28 12 1 1 0 0 ⊢ Wp c (onBufs (k0_part26 (F := F)) v2 v613 v) (fun r => iprop(⌜r = k0_pay17 (cs m c 1)⌝ ∗ St m c K 7 4 4 4 true 28 14 1 1 0 0)) := by
  rw [k0_part26_eq_skeleton]; unfold k0_part26_skel
  simp only [semSignalWord, semWaitWord, Prog.lift, Prog.bind_op, Prog.bind_ret, Prog.pure_eq_ret, wp_deviceId]
  refine step_wrcv 12 rfl ?_
  refine step_wrcv 13 rfl ?_
  refine step_comm 1 (by decide) (by decide) ?_
  exact done_of rfl

theorem part27 (v2) : St m c K 7 4 4 4 true 28 14 1 1 0 0 ⊢ Wp c (onBufs (k0_part27 (F := F)) v2 (osc m c) (shf m c) (k0_pay17 (cs m c 1))) (fun _ => St m c K 7 4 4 4 true 28 14 2 2 0 0) := by
  rw [k0_part27_eq_skeleton]; unfold k0_part27_skel
  simp only [semSignalWord, semWaitWord, Prog.lift, Prog.bind_op, Prog.bind_ret, Prog.pure_eq_ret, wp_deviceId]
  refine step_loadb 1 (by decide) ?_
  refine step_loadb 1 (by decide) ?_
  refine step_storeb 1 rfl (by decide) (by decide) ?_
  refine step_out 1 rfl rfl rfl (by decide) (by decide) ?_
  exact done

theorem part28 (v2 v669) : St m c K 7 4 4 4 true 28 14 2 2 0 0 ⊢ Wp c (onBufs (k0_part28 (F := F)) v2 v669) (fun _ => St m c K 7 4 4 4 true 28 16 2 2 0 0) := by
  rw [k0_part28_eq_skeleton]; unfold k0_part28_skel
  simp only [semSignalWord, semWaitWord, Prog.lift, Prog.bind_op, Prog.bind_ret, Prog.pure_eq_ret, wp_deviceId]
  refine step_wrcv 14 rfl ?_
  refine step_wrcv 15 rfl ?_
  exact done

theorem part29 (v2) : St m c K 7 4 4 4 true 28 16 2 2 0 0 ⊢ Wp c (onBufs (k0_part29 (F := F)) v2) (fun _ => St m c K 7 4 4 4 true 28 18 2 2 0 0) := by
  rw [k0_part29_eq_skeleton]; unfold k0_part29_skel
  simp only [semSignalWord, semWaitWord, Prog.lift, Prog.bind_op, Prog.bind_ret, Prog.pure_eq_ret, wp_deviceId]
  refine step_wrcv 16 rfl ?_
  refine step_wrcv 17 rfl ?_
  exact done

theorem part30 (v2) : St m c K 7 4 4 4 true 28 18 2 2 0 0 ⊢ Wp c (onBufs (k0_part30 (F := F)) v2) (fun _ => St m c K 7 4 4 4 true 28 21 2 2 0 0) := by
  rw [k0_part30_eq_skeleton]; unfold k0_part30_skel
  simp only [semSignalWord, semWaitWord, Prog.lift, Prog.bind_op, Prog.bind_ret, Prog.pure_eq_ret, wp_deviceId]
  refine step_wrcv 18 rfl ?_
  refine step_wrcv 19 rfl ?_
  refine step_wrcv 20 rfl ?_
  exact done

theorem part31 (v2) : St m c K 7 4 4 4 true 28 21 2 2 0 0 ⊢ Wp c (onBufs (k0_part31 (F := F)) v2 (osc m c) (shf m c)) (fun _ => St m c K 7 4 4 4 true 28 21 3 3 0 0) := by
  rw [k0_part31_eq_skeleton]; unfold k0_part31_skel
  simp only [semSignalWord, semWaitWord, Prog.lift, Prog.bind_op, Prog.bind_ret, Prog.pure_eq_ret, wp_deviceId]
  refine step_comm 2 (by decide) (by decide) ?_
  refine step_loadb 2 (by decide) ?_
  refine step_loadb 2 (by decide) ?_
  refine step_storeb 2 rfl (by decide) (by decide) ?_
  refine step_out 2 rfl rfl rfl (by decide) (by decide) ?_
  exact done

theorem part32 (v2 v774) : St m c K 7 4 4 4 true 28 21 3 3 0 0 ⊢ Wp c (onBufs (k0_part32 (F := F)) v2 v774) (fun _ => St m c K 7 4 4 4 true 28 23 3 3 0 0) := by
  rw [k0_part32_eq_skeleton]; unfold k0_part32_skel
  simp only [semSignalWord, semWaitWord, Prog.lift, Prog.bind_op, Prog.bind_ret, Prog.pure_eq_ret, wp_deviceId]
  refine step_wrcv 21 rfl ?_
  refine step_wrcv 22 rfl ?_
  exact done

theorem part33 (v2 v794) : St m c K 7 4 4 4 true 28 23 3 3 0 0 ⊢ Wp c (onBufs (k0_part33 (F := F)) v2 v794) (fun _ => St m c K 7 4 4 4 true 28 25 3 3 0 0) := by
  rw [k0_part33_eq_skeleton]; unfold k0_part33_skel
  simp only [semSignalWord, semWaitWord, Prog.lift, Prog.bind_op, Prog.bind_ret, Prog.pure_eq_ret, wp_deviceId]
  refine step_wrcv 23 rfl ?_
  refine step_wrcv 24 rfl ?_
  exact done

theorem part34 (v2) : St m c K 7 4 4 4 true 28 25 3 3 0 0 ⊢ Wp c (onBufs (k0_part34 (F := F)) v2) (fun _ => St m c K 7 4 4 4 true 28 27 3 3 0 0) := by
  rw [k0_part34_eq_skeleton]; unfold k0_part34_skel
  simp only [semSignalWord, semWaitWord, Prog.lift, Prog.bind_op, Prog.bind_ret, Prog.pure_eq_ret, wp_deviceId]
  refine step_wrcv 25 rfl ?_
  refine step_wrcv 26 rfl ?_
  exact done

theorem part35 : St m c K 7 4 4 4 true 28 27 3 3 0 0 ⊢ Wp c (onBufs (k0_part35 (F := F)) (osc m c) (shf m c)) (fun _ => St m c K 7 4 4 4 true 28 28 4 3 0 0) := by
  rw [k0_part35_eq_skeleton]; unfold k0_part35_skel
  simp only [semSignalWord, semWaitWord, Prog.lift, Prog.bind_op, Prog.bind_ret, Prog.pure_eq_ret, wp_deviceId]
  refine step_wrcv 27 rfl ?_
  refine step_comm 3 (by decide) (by decide) ?_
  refine step_loadb 3 (by decide) ?_
  refine step_loadb 3 (by decide) ?_
  refine step_storeb 3 rfl (by decide) (by decide) ?_
  exact done

theorem part36 (v2) : St m c K 7 4 4 4 true 28 28 4 3 0 0 ⊢ Wp c (onBufs (k0_part36 (F := F)) v2) (fun _ => St m c K 7 4 4 4 true 28 28 4 4 2 0) := by
  rw [k0_part36_eq_skeleton]; unfold k0_part36_skel
  simp only [semSignalWord, semWaitWord, Prog.lift, Prog.bind_op, Prog.bind_ret, Prog.pure_eq_ret, wp_deviceId]
  refine step_out 3 rfl rfl rfl (by decide) (by decide) ?_
  refine step_wsnd 0 rfl (by decide) ?_
  refine step_wsnd 1 rfl (by decide) ?_
  exact done

theorem part37 (v2) : St m c K 7 4 4 4 true 28 28 4 4 2 0 ⊢ Wp c (onBufs (k0_part37 (F := F)) v2) (fun _ => St m c K 7 4 4 4 true 28 28 4 4 4 0) := by
  rw [k0_part37_eq_skeleton]; unfold k0_part37_skel
  simp only [semSignalWord, semWaitWord, Prog.lift, Prog.bind_op, Prog.bind_ret, Prog.pure_eq_ret, wp_deviceId]
  refine step_wsnd 2 rfl (by decide) ?_
  refine step_wsnd 3 rfl (by decide) ?_
  exact done

theorem part38 (v2) : St m c K 7 4 4 4 true 28 28 4 4 4 0 ⊢ Wp c (onBufs (k0_part38 (F := F)) v2) (fun _ => St m c K 7 4 4 4 true 28 28 4 4 7 0) := by
  rw [k0_part38_eq_skeleton]; unfold k0_part38_skel
  simp only [semSignalWord, semWaitWord, Prog.lift, Prog.bind_op, Prog.bind_ret, Prog.pure_eq_ret, wp_deviceId]
  refine step_wsnd 4 rfl (by decide) ?_
  refine step_wsnd 5 rfl (by decide) ?_
  refine step_wsnd 6 rfl (by decide) ?_
  exact done

theorem part39 (v2) : St m c K 7 4 4 4 true 28 28 4 4 7 0 ⊢ Wp c (onBufs (k0_part39 (F := F)) v2) (fun _ => St m c K 7 4 4 4 true 28 28 4 4 9 0) := by
  rw [k0_part39_eq_skeleton]; unfold k0_part39_skel
  simp only [semSignalWord, semWaitWord, Prog.lift, Prog.bind_op, Prog.bind_ret, Prog.pure_eq_ret, wp_deviceId]
  refine step_wsnd 7 rfl (by decide) ?_
  refine step_wsnd 8 rfl (by decide) ?_
  exact done

theorem part40 (v2) : St m c K 7 4 4 4 true 28 28 4 4 9 0 ⊢ Wp c (onBufs (k0_part40 (F := F)) v2) (fun _ => St m c K 7 4 4 4 true 28 28 4 4 12 0) := by
  rw [k0_part40_eq_skeleton]; unfold k0_part40_skel
  simp only [semSignalWord, semWaitWord, Prog.lift, Prog.bind_op, Prog.bind_ret, Prog.pure_eq_ret, wp_deviceId]
  refine step_wsnd 9 rfl (by decide) ?_
  refine step_wsnd 10 rfl (by decide) ?_
  refine step_wsnd 11 rfl (by decide) ?_
  exact done

theorem part41 (v2) : St m c K 7 4 4 4 true 28 28 4 4 12 0 ⊢ Wp c (onBufs (k0_part41 (F := F)) v2) (fun _ => St m c K 7 4 4 4 true 28 28 4 4 14 0) := by
  rw [k0_part41_eq_skeleton]; unfold k0_part41_skel
  simp only [semSignalWord, semWaitWord, Prog.lift, Prog.bind_op, Prog.bind_ret, Prog.pure_eq_ret, wp_deviceId]
  refine step_wsnd 12 rfl (by decide) ?_
  refine step_wsnd 13 rfl (by decide) ?_
  exact done

theorem part42 (v2) : St m c K 7 4 4 4 true 28 28 4 4 14 0 ⊢ Wp c (onBufs (k0_part42 (F := F)) v2) (fun _ => St m c K 7 4 4 4 true 28 28 4 4 17 0) := by
  rw [k0_part42_eq_skeleton]; unfold k0_part42_skel
  simp only [semSignalWord, semWaitWord, Prog.lift, Prog.bind_op, Prog.bind_ret, Prog.pure_eq_ret, wp_deviceId]
  refine step_wsnd 14 rfl (by decide) ?_
  refine step_wsnd 15 rfl (by decide) ?_
  refine step_wsnd 16 rfl (by decide) ?_
  exact done

theorem part43 (v2) : St m c K 7 4 4 4 true 28 28 4 4 17 0 ⊢ Wp c (onBufs (k0_part43 (F := F)) v2) (fun _ => St m c K 7 4 4 4 true 28 28 4 4 19 0) := by
  rw [k0_part43_eq_skeleton]; unfold k0_part43_skel
  simp only [semSignalWord, semWaitWord, Prog.lift, Prog.bind_op, Prog.bind_ret, Prog.pure_eq_ret, wp_deviceId]
  refine step_wsnd 17 rfl (by decide) ?_
  refine step_wsnd 18 rfl (by decide) ?_
  exact done

theorem part44 (v2) : St m c K 7 4 4 4 true 28 28 4 4 19 0 ⊢ Wp c (onBufs (k0_part44 (F := F)) v2) (fun _ => St m c K 7 4 4 4 true 28 28 4 4 22 0) := by
  rw [k0_part44_eq_skeleton]; unfold k0_part44_skel
  simp only [semSignalWord, semWaitWord, Prog.lift, Prog.bind_op, Prog.bind_ret, Prog.pure_eq_ret, wp_deviceId]
  refine step_wsnd 19 rfl (by decide) ?_
  refine step_wsnd 20 rfl (by decide) ?_
  refine step_wsnd 21 rfl (by decide) ?_
  exact done

theorem part45 (v2) : St m c K 7 4 4 4 true 28 28 4 4 22 0 ⊢ Wp c (onBufs (k0_part45 (F := F)) v2) (fun _ => St m c K 7 4 4 4 true 28 28 4 4 24 0) := by
  rw [k0_part45_eq_skeleton]; unfold k0_part45_skel
  simp only [semSignalWord, semWaitWord, Prog.lift, Prog.bind_op, Prog.bind_ret, Prog.pure_eq_ret, wp_deviceId]
  refine step_wsnd 22 rfl (by decide) ?_
  refine step_wsnd 23 rfl (by decide) ?_
  exact done

theorem part46 (v2) : St m c K 7 4 4 4 true 28 28 4 4 24 0 ⊢ Wp c (onBufs (k0_part46 (F := F)) v2) (fun _ => St m c K 7 4 4 4 true 28 28 4 4 27 0) := by
  rw [k0_part46_eq_skeleton]; unfold k0_part46_skel
  simp only [semSignalWord, semWaitWord, Prog.lift, Prog.bind_op, Prog.bind_ret, Prog.pure_eq_ret, wp_deviceId]
  refine step_wsnd 24 rfl (by decide) ?_
  refine step_wsnd 25 rfl (by decide) ?_
  refine step_wsnd 26 rfl (by decide) ?_
  exact done

theorem part47 : St m c K 7 4 4 4 true 28 28 4 4 27 0 ⊢ Wp c (onBufs (k0_part47 (F := F))) (fun _ => St m c K 7 4 4 4 true 28 28 4 4 28 3) := by
  rw [k0_part47_eq_skeleton]; unfold k0_part47_skel
  simp only [semSignalWord, semWaitWord, Prog.lift, Prog.bind_op, Prog.bind_ret, Prog.pure_eq_ret, wp_deviceId]
  refine step_wsnd 27 rfl (by decide) ?_
  refine step_wout 0 rfl (by decide) ?_
  refine step_wout 1 rfl (by decide) ?_
  refine step_wout 2 rfl (by decide) ?_
  exact done

/-- The body of device `c`: from nothing done to everything done. -/
theorem body : St m c K 0 0 0 0 false 0 0 0 0 0 0 ⊢ Wp c (onBufs (cc0_body (F := F))) (fun _ => St m c K 7 4 4 4 true 28 28 4 4 28 4) := by
  rw [cc0_body_eq_skeleton]; unfold cc0_body_skel
  refine then_part_of (part1 m c K) ?_
  rintro ⟨d, v2, v3, v24, w⟩ ⟨h1, h2⟩
  obtain rfl : c = d := Eq.symm h1
  obtain rfl : v3 = barA := h2
  refine then_part (part2 m c K v2 v24 w) fun _ => ?_
  refine then_part (part3 m c K v2) ?_
  rintro ⟨_, _⟩
  refine then_part (part4 m c K _ _ _) ?_
  rintro ⟨_, _⟩
  refine then_part (part5 m c K _ _ _) fun _ => ?_
  refine then_part (part6 m c K _) fun _ => ?_
  refine then_part (part7 m c K _) fun _ => ?_
  refine then_part (part8 m c K _ _) ?_
  rintro ⟨_, _⟩
  refine then_part (part9 m c K _ _ _) ?_
  rintro ⟨_, _⟩
  refine then_part (part10 m c K _ _ _) fun _ => ?_
  refine then_part (part11 m c K _) fun _ => ?_
  refine then_part (part12 m c K _ _) fun _ => ?_
  refine then_part (part13 m c K _ _) ?_
  rintro ⟨_, _⟩
  refine then_part (part14 m c K _ _ _) ?_
  rintro ⟨_, _⟩
  refine then_part (part15 m c K _ _ _) fun _ => ?_
  refine then_part (part16 m c K _ _) fun _ => ?_
  refine then_part (part17 m c K _ _) fun _ => ?_
  refine then_part (part18 m c K _ _) ?_
  rintro ⟨_, _⟩
  refine then_part_of (part19 m c K _ _ _) ?_
  rintro _ rfl
  refine then_part (part20 m c K _) fun _ => ?_
  refine then_part (part21 m c K _ _) fun _ => ?_
  refine then_part_of (part22 m c K _ _) ?_
  rintro _ rfl
  refine then_part (part23 m c K _) fun _ => ?_
  refine then_part (part24 m c K _) fun _ => ?_
  refine then_part (part25 m c K _) ?_
  rintro ⟨_, _⟩
  refine then_part_of (part26 m c K _ _ _) ?_
  rintro _ rfl
  refine then_part (part27 m c K _) fun _ => ?_
  refine then_part (part28 m c K _ _) fun _ => ?_
  refine then_part (part29 m c K _) fun _ => ?_
  refine then_part (part30 m c K _) fun _ => ?_
  refine then_part (part31 m c K _) fun _ => ?_
  refine then_part (part32 m c K _ _) fun _ => ?_
  refine then_part (part33 m c K _ _) fun _ => ?_
  refine then_part (part34 m c K _) fun _ => ?_
  refine then_part (part35 m c K) fun _ => ?_
  refine then_part (part36 m c K _) fun _ => ?_
  refine then_part (part37 m c K _) fun _ => ?_
  refine then_part (part38 m c K _) fun _ => ?_
  refine then_part (part39 m c K _) fun _ => ?_
  refine then_part (part40 m c K _) fun _ => ?_
  refine then_part (part41 m c K _) fun _ => ?_
  refine then_part (part42 m c K _) fun _ => ?_
  refine then_part (part43 m c K _) fun _ => ?_
  refine then_part (part44 m c K _) fun _ => ?_
  refine then_part (part45 m c K _) fun _ => ?_
  refine then_part (part46 m c K _) fun _ => ?_
  refine then_part (part47 m c K) fun _ => ?_
  simp only [Prog.lift, Prog.bind_op, Prog.bind_ret, Prog.pure_eq_ret]
  refine step_wout 3 rfl (by decide) ?_
  exact done

end Cert.LN
-- ==== Proof.Launch.lean ====
/-
# The run of the kernel's launch

The data the pipeline rule asks for, the body's obligation, and the run of `main` on eight devices.
-/
module

public import proofs.«01_k».proof.Proof.Ghost
public import proofs.«01_k».proof.Proof.Body
public import Idealize.ShloMosaic.Lib.Pipeline.CollectiveSegs

@[expose] public section

noncomputable section

namespace Cert.LN

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline rule is given -/

/-- From `m`, every counter at zero. -/
def s₀ : MemSt nD τ sig (Elt F) := ⟨m, fun _ => 0, ρ⟩

abbrev t₀ : Fin cfg0.N := t0_0

theorem fin_N (t : Fin cfg0.N) : t = t₀ := fin_N0 t

/-- What a device holds at the launch's start, the scratch buffers apart, -/
def start (c : Dev nD) : sProp 𝕄 :=
  iprop(G' m c ∗ levAts L lv ∗ crds c ∗ (((c : Thread nD τ).loc main_arg0) ↦{fullShare} xA m c) ∗ ∃ f, (((c : Thread nD τ).loc main_v1) ↦{fullShare} f))
/-- with them, -/
def Φ₀ (c : Dev nD) : sProp 𝕄 :=
  iprop(start m c ∗ (∃ f, (((c : Thread nD τ).loc cc0_scratch0) ↦{fullShare} f)) ∗ ∃ f, (((c : Thread nD τ).loc cc0_scratch1) ↦{fullShare} f))
/-- and at its end. -/
def fin (c : Dev nD) : sProp 𝕄 :=
  iprop(unscopedSems0 c ∗ (((c : Thread nD τ).loc main_arg0) ↦{fullShare} xA m c) ∗ (((c : Thread nD τ).loc main_v1) ↦{fullShare} outF m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tW m c
    | ⟨1, _⟩ => scW m c
    | ⟨2, _⟩ => shW m c
  Φ t := match t with
    | ⟨0, _⟩ => Φ₀ m c
    | ⟨_ + 1, _⟩ => ended m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body's obligation -/

abbrev stg (c : Dev nD) (b : Ref sig .tc) (X : Buf (Elt F) ((c : Thread nD τ).loc b)) : sProp 𝕄 :=
  iprop(∃ f, ⌜f = X⌝ ∗ (((c : Thread nD τ).loc b) ↦{fullShare} f))

omit [FloatOps F] in
theorem owns_whole_eq (c : Dev nD) (b : Ref sig .tc) (X : Buf (Elt F) ((c : Thread nD τ).loc b)) :
    (owns (c : Thread nD τ) (Memref.whole b) fullShare X : sProp 𝕄) = stg c b X := by
  unfold owns; simp only [Memref.view_whole, View.read_whole, View.set_whole]

set_option maxRecDepth 4000 in
theorem before_0 (c : Dev nD) (d) : (dats m ρ 0 c).before (0 : Fin 3) t₀ d = tW m c := by
  unfold Dat.before; rw [if_pos (fetch0_0 t₀)]; rfl
set_option maxRecDepth 4000 in
theorem before_1 (c : Dev nD) (d) : (dats m ρ 0 c).before (1 : Fin 3) t₀ d = scW m c := by
  unfold Dat.before; rw [if_pos (fetch0_1 t₀)]; rfl
set_option maxRecDepth 4000 in
theorem before_2 (c : Dev nD) (d) : (dats m ρ 0 c).before (2 : Fin 3) t₀ d = shW m c := by
  unfold Dat.before; rw [if_pos (fetch0_2 t₀)]; rfl

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
def bodyPost (c : Dev nD) : sProp 𝕄 :=
  iprop(ended m c ∗ (dats m ρ 0 c).owesAt () t₀.succ ∗ stg c cc0_stg0_0 (tW m c) ∗ stg c cc0_stg1_0 (scW m c) ∗ stg c cc0_stg2_0 (shW m c))

set_option maxRecDepth 4000 in
theorem bodyPre_St (c : Dev nD) : bodyPre m ρ c ⊢ iprop(∃ K, St m c K 0 0 0 0 false 0 0 0 0 0 0) := by
  unfold bodyPre Φ₀ start G' Dat.owesAt Pipeline.owesWithin
  rw [show (dats m ρ 0 c).owed t₀.castSucc = O₀ c from rfl]
  iintro ⟨⟨⟨⟨%K, HR, Hlin⟩, Hlev, Hcr, Hx, ⟨%g, Hy⟩⟩, ⟨%f, Hb⟩, ⟨%f', Hc⟩⟩, ⟨%W, %hW, HO⟩, ⟨%d0, %g0, %h0, H0⟩, ⟨%d1, %g1, %h1, H1⟩, ⟨%d2, %g2, %h2, H2⟩⟩
  rw [before_0] at h0
  rw [before_1] at h1
  rw [before_2] at h2
  subst h0 h1 h2
  iexists K
  iapply (St_intro m K c f f' g)
  isplitl [HR]; · iexact HR
  isplitl [Hlev]; · iexact Hlev
  isplitl [Hlin]; · iexact Hlin
  isplitl [Hcr]; · iexact Hcr
  isplitl [Hx]; · iexact Hx
  isplitl [Hy]; · iexact Hy
  isplitl [Hb]; · iexact Hb
  isplitl [Hc]; · iexact Hc
  isplitl [HO]; · iexists W; iexact HO
  isplitl [H0]; · iexact H0
  isplitl [H1] <;> iassumption

set_option maxRecDepth 4000 in
theorem St_bodyPost (c : Dev nD) (K : Dev nD × Kd → ℕ) : St m c K 7 4 4 4 true 28 28 4 4 28 4 ⊢ bodyPost m ρ c := by
  refine (St_exit m K c).trans ?_
  unfold bodyPost Dat.owesAt Pipeline.owesWithin
  rw [show (dats m ρ 0 c).owed t₀.succ = 0 from rfl]
  iintro ⟨He, ⟨%W, HO⟩, H0, H1, H2⟩
  isplitl [He]; · iexact He
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem sound_body (c : Dev nD) : bodyPre m ρ c ⊢ Wp c (onBufs (cc0_body (F := F))) (fun _ => bodyPost m ρ c) := by
  refine (bodyPre_St m ρ c).trans ?_
  iintro ⟨%K, H⟩
  iapply (show St m c K 0 0 0 0 false 0 0 0 0 0 0 ⊢ Wp c (onBufs (cc0_body (F := F))) (fun _ => bodyPost m ρ c) from
    (body m c K).trans (wp_mono _ _ _ fun _ => St_bodyPost m ρ c K))
  iexact H

set_option maxRecDepth 30000 in
theorem body_obligation (c : Dev nD) : BodyObligation (dats m ρ 0 c) (defs₀ (F := F)) Variants.none () Set.univ := fun t => by
  rw [fin_N t]
  rw [bigSep_W0, bigSep_W0]
  simp only [owns_whole_eq]
  show bodyPre m ρ c ⊢ Wp c (onBufs (cc0_body (F := F))) (fun _ => bodyPost m ρ c)
  exact sound_body m ρ c

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨Hx, Hy⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hx]; · iexact Hx
    iexists _; iexact Hy
  · iempintro

theorem start_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem ended_out (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = ended m c from rfl, scopedRest0_eq]
  unfold ended fin
  rw [zers_eq]
  iintro ⟨Hx, Hy, Hb, Hc, Hu, Ho⟩
  isplitl [Hx Hy Hu]
  · isplitl [Hu]; · iexact Hu
    isplitl [Hx] <;> iassumption
  isplitl [Ho]; · iexact Ho
  isplitl [Hb]
  · iexists _; iexact Hb
  iexists _; iexact Hc

theorem wait_stage (c : Dev nD) (q : DmaSem sig) (hq : q.val < 3) (t : Fin (cfg0.N + 1)) :
    (levAts L lv : sProp 𝕄) ⊢ MayWait (c : Thread nD τ) (.dma q) () ((dats m ρ 0 c).owed t) := by
  have h : lv ((c : Thread nD τ), SemLoc.dma q) () ≤ 0 := (lv_stage c q hq).le
  rcases t with ⟨_ | _, ht⟩
  · exact mayWait_of c _ 0 0 0 h (fun _ => Nat.zero_lt_one) (fun _ => Nat.zero_lt_two)
  · have h := mayWait_of (F := F) c _ 7 28 0 h (fun _ => Nat.zero_lt_one) (fun _ => Nat.zero_lt_two)
    rw [owed_last] at h
    exact h

theorem waits (c : Dev nD) : (levAts L lv : sProp 𝕄) ⊢ Pipeline.cellsWaits cfgs (dats m ρ) () 0 c :=
  Pipeline.cellsWaits_intro cfgs (dats m ρ) () 0 c fun w s t => wait_stage m ρ c _ (by fin_cases w <;> fin_cases s <;> decide) t

/-! ## The run -/

/-- A device's memory at the end: the argument's slice, the result, the staged operands' arrays. -/
def QC (c : Dev nD) (r : MemSt nD τ sig (Elt F)) : Prop :=
  r.mem ((c : Thread nD τ).loc main_v1) = outF m c ∧ r.mem ((c : Thread nD τ).loc main_arg0) = m ((c : Thread nD τ).loc main_arg0)
    ∧ r.mem ((c : Thread nD τ).loc main_arg1) = m ((c : Thread nD τ).loc main_arg1)
    ∧ r.mem ((c : Thread nD τ).loc main_arg2) = m ((c : Thread nD τ).loc main_arg2)
    ∧ r.mem ((c : Thread nD τ).loc main_arg3) = m ((c : Thread nD τ).loc main_arg3)

/-- What is read off the end of a device's run. -/
def QY (c : Dev nD) (s : MemSt nD τ sig (Elt F)) : Prop :=
  (∀ sm : SemLoc sig, sm.isScoped .tc = false → s.sem ((c.tc : Thread nD τ), sm) = 0)
    ∧ s.mem ((c : Thread nD τ).loc main_v1) = outF m c ∧ s.mem ((c : Thread nD τ).loc main_arg0) = m ((c : Thread nD τ).loc main_arg0)

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Finset.univ : Finset Unit) (fun _ => ℓ) (fun _ => f) s'
  rw [show (Finset.univ : Finset Unit) = {()} from rfl, bigSep_singleton] at h
  refine h.trans ?_
  iintro ⟨%H, HS⟩
  isplitr; · ipureintro; exact H () (Finset.mem_singleton_self _)
  iexact HS

theorem fin_read (c : Dev nD) (s' : Phys nD τ sig (Elt F)) :
    iprop(fin m c ∗ emp ∗ SI s') ⊢ (|={Set.univ}=> iprop(⌜QY m c s'.mem⌝ ∗ SI s') : sProp 𝕄) := by
  unfold fin
  iintro ⟨⟨Hu, Hx, Hy⟩, -, HSI⟩
  ihave H := (read_one _ _ s') $$ [Hx HSI]
  · isplitl [Hx] <;> iassumption
  icases H with ⟨%hx, HSI⟩
  ihave H := (read_one _ _ s') $$ [Hy HSI]
  · isplitl [Hy] <;> iassumption
  icases H with ⟨%hy, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hy, hx⟩
  iexact HSI

set_option maxRecDepth 30000 in
/-- On eight devices, for any float values, from any memory with zero counters: every weakly fair execution of `main`
    terminates, and every final state has each device's result at `outF`, the arguments as they were and every counter
    at zero. -/
theorem run_main : θ_run defs (onTc (τ := τ) (main (F := F))) (s₀ m ρ) (fun r => (∀ c, QC m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := start_in m ρ) (hout := ended_out m ρ)
    (QY := QY m) (hY := fin_read m)
    (hQ := fun _ h hs => ⟨fun c => ⟨(h c).2.2.2.1, (h c).2.2.2.2, ((h c).1 (0 : Fin 3)).trans ((dats m ρ 0 c).arrAt_in (0 : Fin 3) rfl _),
        ((h c).1 (1 : Fin 3)).trans ((dats m ρ 0 c).arrAt_in (1 : Fin 3) rfl _), ((h c).1 (2 : Fin 3)).trans ((dats m ρ 0 c).arrAt_in (2 : Fin 3) rfl _)⟩,
      sem_eq_zero hs fun c => (h c).2.2.1⟩)

end Cert.LN

end
-- ==== Proof.Frames.lean ====
/-
# The frames

The kernel as printed and its idealization are one text, so one run, stated over any float values, serves both.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.LN

open Idealize.ShloMosaic Idealize.SL.Sem

/-- The run, read at the arguments. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main m ρ)

theorem frame_ideal : @Cert.quiescent_KernelIdeal Cert.KernelIdeal.Gen.facts := fun m ρ _ => frame_any m ρ

set_option maxRecDepth 30000 in
/-- One text: the two body tables agree, label by label. -/
theorem defs₀_eq {F : FTy → Type} [FloatOps F] : (Cert.Kernel.defs₀ : Defs Cert.KernelIdeal.nD Cert.KernelIdeal.τ Cert.KernelIdeal.sig (Elt F) Cert.KernelIdeal.Λ₀) = Cert.KernelIdeal.defs₀ := by
  unfold Cert.Kernel.defs₀ Cert.KernelIdeal.defs₀
  refine congrArg Defs.onTc (funext fun l => funext fun p => ?_)
  fin_cases l
  obtain ⟨t, s⟩ := p
  rfl

theorem defs_eq {F : FTy → Type} [FloatOps F] : (Cert.Kernel.defs : Defs Cert.KernelIdeal.nD Cert.KernelIdeal.τ Cert.KernelIdeal.sig (Elt F)
    (Pipeline.Sig Cert.KernelIdeal.Λ₀ (Fin 1) fun p => (Cert.KernelIdeal.pcfgs (F := F) p).Adm)) = Cert.KernelIdeal.defs := by
  unfold Cert.Kernel.defs Cert.KernelIdeal.defs
  exact congrArg (Pipeline.defs Cert.KernelIdeal.pcfgs) defs₀_eq

theorem frame_kernel : @Cert.quiescent_Kernel Cert.Kernel.Gen.facts := fun m ρ _ => by
  have h := frame_any (F := Bits) m ρ
  rw [← defs_eq] at h
  exact h

theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.LN

end
-- ==== Proof.Payloads.lean ====
/-
# What the kernel's result array holds, index by index

The stored statistics are row sums and row sums of squares; the eight slots of a buffer hold the eight devices' ones; a
result value is the normalised `x` value, scaled and shifted.
-/
module

public import proofs.«01_k».proof.Proof.Proto
public import Idealize.ShloMosaic.Lib.Pointwise

@[expose] public section

noncomputable section

namespace Cert.LN

open Cert.KernelIdeal Cert.KernelIdeal.Gen
open Idealize.ShloMosaic Idealize.ShloMosaic.TcCoe

/-- The first statistic: a row's sum; -/
theorem pay1_at (v : FVec Ideal S2x512x512 .f32) (a b : Fin 1) (p : Fin 2) (r : Fin 512) :
    k0_pay1 (F := Ideal) v (ix4 a b p r) = ∑ l : Fin 512, v (ix3 p r l) := by
  pointwise [k0_pay1]

/-- the second: a row's sum of squares. -/
theorem pay2_at (v : FVec Ideal S2x512x512 .f32) (a b : Fin 1) (p : Fin 2) (r : Fin 512) :
    k0_pay2 (F := Ideal) v (ix4 a b p r) = ∑ l : Fin 512, v (ix3 p r l) * v (ix3 p r l) := by
  pointwise [k0_pay2]

/-- One plus the scale. -/
theorem pay10_at (t : FVec Ideal S2x128 .f32) (w : FVec Ideal S128x512 .f32) (p : Fin 2) (r : Fin 512) :
    k0_pay10 (F := Ideal) t w (ix2 p r) = 1 + (0 + ∑ k : Fin 128, t (ix2 p k) * w (ix2 k r)) := by
  pointwise [k0_pay10, k0_pay9]

/-- The shift. -/
theorem pay11_at (t : FVec Ideal S2x128 .f32) (w : FVec Ideal S128x512 .f32) (p : Fin 2) (r : Fin 512) :
    k0_pay11 (F := Ideal) t w (ix2 p r) = (0 + ∑ k : Fin 128, t (ix2 p k) * w (ix2 k r)) := by
  pointwise [k0_pay11, k0_pay9]

/-- The result's value: the row's sum and sum of squares added over the eight slots, the mean and the variance of
4096 values from them, and the scaled and shifted normalised value. -/
def outVal (s q x o h : EReal) : EReal :=
  (x - Ideal.div s (Ideal.ofBits .f32 0x45800000#32))
      * Ideal.rsqrt (Ideal.div q (Ideal.ofBits .f32 0x45800000#32)
          - Ideal.div s (Ideal.ofBits .f32 0x45800000#32) * Ideal.div s (Ideal.ofBits .f32 0x45800000#32)
          + Ideal.ofBits .f32 0x3727C5AC#32) * o + h

/-- A chunk's result at an index. -/
theorem pay19_at (osc shf : FVec Ideal S2x512 .f32) (s : FVec Ideal S1x8x4x512 .bf16) (x : FVec Ideal S2x512x512 .f32)
    (p : Fin 2) (r l : Fin 512) :
    k0_pay19 (F := Ideal) osc shf s x (ix3 p r l)
      = outVal (∑ k : Fin 8, s (ix4 0 k ⟨p.val, by omega⟩ r)) (∑ k : Fin 8, s (ix4 0 k ⟨2 + p.val, by omega⟩ r))
          (x (ix3 p r l)) (osc (ix2 p l)) (shf (ix2 p l)) := by
  pointwise [k0_pay19, outVal]

variable (m : (ℓ : Loc nD τ sig) → Buf (Elt Ideal) ℓ)

/-- Row `r` of chunk `i`. -/
def rowOf (i : Fin 4) (r : Fin 512) : Fin 2048 := ⟨512 * i.val + r.val, by omega⟩

/-- The chunk's values are those rows of the device's slice. -/
theorem xs_at (c : Dev nD) (i : Fin 4) (p : Fin 2) (r l : Fin 512) :
    xs m c i (ix3 p r l) = xA m c (ix3 p (rowOf i r) l) := by
  show xA m c _ = _
  refine congrArg (xA m c) (funext fun a => Fin.ext ?_)
  match a with
  | ⟨0, _⟩ => show 0 + 1 * p.val = p.val; omega
  | ⟨1, _⟩ => show 512 * i.val + 1 * r.val = 512 * i.val + r.val; omega
  | ⟨2, _⟩ => show 0 + 1 * l.val = l.val; omega

/-- The loaded slots are those of the buffer. -/
theorem cs_at (c : Dev nD) (i : Fin 4) (z : Fin 1) (k : Fin 8) (p : Fin 4) (r : Fin 512) :
    cs m c i (ix4 z k p r) = commF m c (ix4 i k p r) := by
  show commF m c _ = _
  refine congrArg (commF m c) (funext fun a => Fin.ext ?_)
  match a with
  | ⟨0, _⟩ => show i.val + 1 * z.val = i.val; omega
  | ⟨1, _⟩ => show 0 + 1 * k.val = k.val; omega
  | ⟨2, _⟩ => show 0 + 1 * p.val = p.val; omega
  | ⟨3, _⟩ => show 0 + 1 * r.val = r.val; omega

/-- Where a statistic's index lies in its half slot. -/
theorem hIdx_at (i : Fin 4) (k : Fin 8) (q : Fin 4) (r : Fin 512) (p : Fin 2) (h : q.val % 2 = p.val) :
    hIdx (ix4 i k q r) = ix4 0 0 p r := by
  refine funext fun a => Fin.ext ?_
  match a with
  | ⟨0, _⟩ => rfl
  | ⟨1, _⟩ => rfl
  | ⟨2, _⟩ => exact h
  | ⟨3, _⟩ => rfl

/-- The sum slots: the sums over the row's 512 values on the slot's device. -/
theorem comm_sum (c : Dev nD) (i : Fin 4) (k : Fin 8) (p : Fin 2) (r : Fin 512) :
    commF m c (ix4 i k ⟨p.val, by omega⟩ r) = ∑ l : Fin 512, xA m (srcD c k) (ix3 p (rowOf i r) l) := by
  have h : stat m (srcD c k) i p.val = k0_pay1 (xs m (srcD c k) i) := if_pos (by omega)
  refine (congrFun h _).trans ?_
  rw [hIdx_at i k _ r p (by show p.val % 2 = p.val; omega), pay1_at]
  exact Finset.sum_congr rfl fun l _ => xs_at m _ i p r l

/-- The square slots: the sums of squares over the row's 512 values on the slot's device. -/
theorem comm_sq (c : Dev nD) (i : Fin 4) (k : Fin 8) (p : Fin 2) (r : Fin 512) :
    commF m c (ix4 i k ⟨2 + p.val, by omega⟩ r)
      = ∑ l : Fin 512, xA m (srcD c k) (ix3 p (rowOf i r) l) * xA m (srcD c k) (ix3 p (rowOf i r) l) := by
  have h : stat m (srcD c k) i (2 + p.val) = k0_pay2 (xs m (srcD c k) i) := if_neg (by omega)
  refine (congrFun h _).trans ?_
  rw [hIdx_at i k _ r p (by show (2 + p.val) % 2 = p.val; omega), pay2_at]
  exact Finset.sum_congr rfl fun l _ => by rw [xs_at]

/-- Device `c`'s embedding, scale weights and shift weights. -/
def tA (c : Dev nD) : FVec Ideal S2x128 .f32 := m ((c : Thread nD τ).loc main_arg1)
def scA (c : Dev nD) : FVec Ideal S128x512 .f32 := m ((c : Thread nD τ).loc main_arg2)
def shA (c : Dev nD) : FVec Ideal S128x512 .f32 := m ((c : Thread nD τ).loc main_arg3)

/-- The staged operands are the whole arrays. -/
theorem tW_at (c : Dev nD) (p : Fin 2) (k : Fin 128) :
    tW m c (ix2 p k) = tA m c (ix2 p k) := by
  refine congrArg (tA m c) (funext fun a => Fin.ext ?_)
  match a with
  | ⟨0, _⟩ => show 0 + 1 * p.val = p.val; omega
  | ⟨1, _⟩ => show 0 + 1 * k.val = k.val; omega
theorem scW_at (c : Dev nD) (k : Fin 128) (l : Fin 512) :
    scW m c (ix2 k l) = scA m c (ix2 k l) := by
  refine congrArg (scA m c) (funext fun a => Fin.ext ?_)
  match a with
  | ⟨0, _⟩ => show 0 + 1 * k.val = k.val; omega
  | ⟨1, _⟩ => show 0 + 1 * l.val = l.val; omega
theorem shW_at (c : Dev nD) (k : Fin 128) (l : Fin 512) :
    shW m c (ix2 k l) = shA m c (ix2 k l) := by
  refine congrArg (shA m c) (funext fun a => Fin.ext ?_)
  match a with
  | ⟨0, _⟩ => show 0 + 1 * k.val = k.val; omega
  | ⟨1, _⟩ => show 0 + 1 * l.val = l.val; omega

/-- Row `g` is row `g mod 512` of chunk `g / 512`. -/
theorem rowOf_chunk (p : Fin 2) (g : Fin 2048) (l : Fin 512) :
    rowOf (chOf (ix3 p g l)) ⟨g.val % 512, Nat.mod_lt _ (by decide)⟩ = g :=
  Fin.ext (Nat.div_add_mod g.val 512)

theorem oIdx_at (p : Fin 2) (g : Fin 2048) (l : Fin 512) :
    oIdx (ix3 p g l) = ix3 p ⟨g.val % 512, Nat.mod_lt _ (by decide)⟩ l := by
  refine funext fun a => ?_
  match a with
  | ⟨0, _⟩ => rfl
  | ⟨1, _⟩ => rfl
  | ⟨2, _⟩ => rfl

/-- What the result array of device `c` holds. -/
theorem outF_at (c : Dev nD) (p : Fin 2) (g : Fin 2048) (l : Fin 512) :
    outF m c (ix3 p g l)
      = outVal (∑ k : Fin 8, ∑ j : Fin 512, xA m (srcD c k) (ix3 p g j))
          (∑ k : Fin 8, ∑ j : Fin 512, xA m (srcD c k) (ix3 p g j) * xA m (srcD c k) (ix3 p g j))
          (xA m c (ix3 p g l))
          (1 + ∑ k : Fin 128, tA m c (ix2 p k) * scA m c (ix2 k l))
          (∑ k : Fin 128, tA m c (ix2 p k) * shA m c (ix2 k l)) := by
  show k0_pay19 (osc m c) (shf m c) (cs m c (chOf (ix3 p g l))) (xs m c (chOf (ix3 p g l))) (oIdx (ix3 p g l)) = _
  rw [oIdx_at, pay19_at, xs_at, rowOf_chunk, osc, shf, pay10_at, pay11_at]
  simp only [cs_at, comm_sum, comm_sq, rowOf_chunk, tW_at, scW_at, shW_at, zero_add]

end Cert.LN
-- ==== Proof.Scalars.lean ====
/-
# The arithmetic of layer normalisation, over the extended reals

For real values the one-pass variance (mean of squares less square of the mean) is the two-pass one (mean of the squared
deviations), it is not negative, and multiplying by a reciprocal square root is dividing by the square root.
-/
module

public import Idealize.ShloMosaic.Lib.Pointwise

@[expose] public section

noncomputable section

namespace Cert.LN

open Idealize.ShloMosaic

/-- The number of values in a row. -/
theorem ofBits_4096 : Ideal.ofBits .f32 0x45800000#32 = ((4096 : ℝ) : EReal) := by
  simp [Ideal.ofBits, Ideal.ieee, -EReal.coe_mul]; norm_num

/-- The constant added to the variance is a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem div_4096 (a : ℝ) : Ideal.div (a : EReal) (Ideal.ofBits .f32 0x45800000#32) = ((a / 4096 : ℝ) : EReal) := by
  rw [ofBits_4096, Ideal.div_coe (by norm_num)]
  rw [← EReal.coe_mul]; congr 1; ring

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The two forms of the variance of 4096 values. -/
theorem var_eq (f : Fin 4096 → ℝ) :
    (∑ k, f k * f k) / 4096 - (∑ k, f k) / 4096 * ((∑ k, f k) / 4096)
      = (∑ k, (f k - (∑ k, f k) / 4096) * (f k - (∑ k, f k) / 4096)) / 4096 := by
  generalize hM : (∑ k, f k) / 4096 = M
  have hs : ∑ k, f k = 4096 * M := by rw [← hM]; ring
  have h : ∀ k, (f k - M) * (f k - M) = f k * f k - 2 * M * f k + M * M := fun k => by ring
  simp only [h, Finset.sum_add_distrib, Finset.sum_sub_distrib, ← Finset.mul_sum, hs, Finset.sum_const, Finset.card_univ,
    Fintype.card_fin, nsmul_eq_mul]
  push_cast; ring

/-- Multiplying by the reciprocal root of a positive real is dividing by its root. -/
theorem mul_rsqrt (y v : ℝ) (hv : 0 < v) : (y : EReal) * Ideal.rsqrt (v : EReal) = Ideal.div y (Ideal.sqrt (v : EReal)) := by
  rw [Ideal.rsqrt_coe, Ideal.sqrt_coe, if_neg hv.not_gt, if_neg hv.ne', if_neg hv.not_gt, Ideal.div_coe (Real.sqrt_pos.2 hv).ne', one_div]

/-- Normalising a real row: from its sum and sum of squares, or from its deviations from the mean. -/
theorem normalise (f : Fin 4096 → ℝ) (y : ℝ) :
    ((y : EReal) - Ideal.div (∑ k, (f k : EReal)) (Ideal.ofBits .f32 0x45800000#32))
        * Ideal.rsqrt (Ideal.div (∑ k, (f k : EReal) * (f k : EReal)) (Ideal.ofBits .f32 0x45800000#32)
            - Ideal.div (∑ k, (f k : EReal)) (Ideal.ofBits .f32 0x45800000#32)
              * Ideal.div (∑ k, (f k : EReal)) (Ideal.ofBits .f32 0x45800000#32)
            + Ideal.ofBits .f32 0x3727C5AC#32)
      = Ideal.div ((y : EReal) - Ideal.div (∑ k, (f k : EReal)) (Ideal.ofBits .f32 0x45800000#32))
          (Ideal.sqrt (Ideal.div
              (∑ k, ((f k : EReal) - Ideal.div (∑ k, (f k : EReal)) (Ideal.ofBits .f32 0x45800000#32))
                * ((f k : EReal) - Ideal.div (∑ k, (f k : EReal)) (Ideal.ofBits .f32 0x45800000#32)))
              (Ideal.ofBits .f32 0x45800000#32) + Ideal.ofBits .f32 0x3727C5AC#32)) := by
  obtain ⟨e, he, hb⟩ := ofBits_eps
  rw [hb, ← coe_sum, div_4096]
  simp only [← EReal.coe_mul, ← EReal.coe_sub, ← coe_sum, div_4096, ← EReal.coe_add]
  rw [var_eq]
  refine mul_rsqrt _ _ (add_pos_of_nonneg_of_pos (div_nonneg ?_ (by norm_num)) he)
  exact Finset.sum_nonneg fun k _ => mul_self_nonneg _

end Cert.LN
-- ==== Proof.RefValue.lean ====
/-
# What the reference computes, index by index
-/
module

public import proofs.«01_k».proof.Proof.Gen.ReferenceIdeal.Run
public import proofs.«01_k».proof.Proof.Scalars
public import Idealize.ShloMosaic.Lib.Pointwise

@[expose] public section

noncomputable section

namespace Cert.LN.Ref

open Cert.ReferenceIdeal Cert.ReferenceIdeal.Gen
open Idealize.ShloMosaic Idealize.ShloMosaic.TcCoe

variable (x : FVec Ideal S2x2048x4096 .f32) (t : FVec Ideal S2x128 .f32) (w v : FVec Ideal S128x4096 .f32)

/-- The rows' means. -/
def mean : FVec Ideal S2x2048x1 .f32 :=
  Host.divf (broadcastInDim S2x2048x1 ![0, 1] bcast_S2x2048_S2x2048x1_0_1
      (Host.reduceAdd x (constant S_ .f32 0x00000000#32) reducesTo_S2x2048x4096_S2x2048_d2 h_S_))
    (broadcastInDim S2x2048x1 ![] bcast_S_S2x2048x1 (constant S_ .f32 0x45800000#32))

/-- The values less their row's mean. -/
def centred : FVec Ideal S2x2048x4096 .f32 :=
  subf x (broadcastInDim S2x2048x4096 ![0, 1, 2] bcast_S2x2048x1_S2x2048x4096_0_1_2 (mean x))

/-- The number of values the variance is taken over. -/
def count : FVec Ideal S_ .f32 := subf (constant S_ .f32 0x45800000#32) (sitofp .f32 (constantI S_ 32 0#32))

/-- The rows' variances. -/
def variance : FVec Ideal S2x2048x1 .f32 :=
  select (broadcastInDim S2x2048x1 ![] bcast_S_S2x2048x1 (cmpf .ogt count (constant S_ .f32 0x00000000#32)))
    (Host.divf (broadcastInDim S2x2048x1 ![0, 1] bcast_S2x2048_S2x2048x1_0_1
        (Host.reduceAdd (mulf (centred x) (centred x)) (constant S_ .f32 0x00000000#32) reducesTo_S2x2048x4096_S2x2048_d2 h_S_))
      (broadcastInDim S2x2048x1 ![] bcast_S_S2x2048x1 count))
    (broadcastInDim S2x2048x1 ![] bcast_S_S2x2048x1 (id (constant S_ .f32 0x7FC00000#32)))

/-- A projection of the embedding, one row per sample. -/
def proj : FVec Ideal S2x1x4096 .f32 :=
  broadcastInDim S2x1x4096 ![0, 2] bcast_S2x4096_S2x1x4096_0_2
    (Host.dotGeneral dot_S2x128_S128x4096_S2x4096_1_0_0_1_n_n none t w)

/-- The reference's result. -/
def result : FVec Ideal S2x2048x4096 .f32 :=
  addf (mulf
      (Host.divf (centred x) (broadcastInDim S2x2048x4096 ![0, 1, 2] bcast_S2x2048x1_S2x2048x4096_0_1_2
        (Host.sqrt (addf (variance x) (broadcastInDim S2x2048x1 ![] bcast_S_S2x2048x1 (constant S_ .f32 0x3727C5AC#32))))))
      (broadcastInDim S2x2048x4096 ![0, 1, 2] bcast_S2x1x4096_S2x2048x4096_0_1_2
        (addf (broadcastInDim S2x1x4096 ![] bcast_S_S2x1x4096 (constant S_ .f32 0x3F800000#32)) (proj t w))))
    (broadcastInDim S2x2048x4096 ![0, 1, 2] bcast_S2x1x4096_S2x2048x4096_0_1_2 (proj t v))

theorem mean_at (p : Fin 2) (r : Fin 2048) (z : Fin 1) :
    mean x (ix3 p r z) = Ideal.div (∑ k : Fin 4096, x (ix3 p r k)) (Ideal.ofBits .f32 0x45800000#32) := by
  pointwise [mean]

theorem centred_at (p : Fin 2) (r : Fin 2048) (l : Fin 4096) :
    centred x (ix3 p r l) = x (ix3 p r l) - mean x (ix3 p r 0) := by
  pointwise [centred]

/-- Taking the integer zero off changes nothing. -/
theorem sub_zero_int (e : EReal) : e - (FloatOps.sitofp .f32 0#32 : Ideal .f32) = e := by
  show e - (((0#32 : BitVec 32).toInt : ℝ) : EReal) = e
  simp

theorem count_at (j : S_.Idx) : count j = Ideal.ofBits .f32 0x45800000#32 := by
  pointwise [count]
  exact sub_zero_int _

theorem variance_at (p : Fin 2) (r : Fin 2048) (z : Fin 1) :
    variance x (ix3 p r z)
      = Ideal.div (∑ k : Fin 4096, centred x (ix3 p r k) * centred x (ix3 p r k)) (Ideal.ofBits .f32 0x45800000#32) := by
  pointwise [variance]
  rw [count_at, if_pos (by rw [ofBits_4096]; exact_mod_cast (by norm_num : (0 : ℝ) < 4096))]

theorem proj_at (p : Fin 2) (z : Fin 1) (l : Fin 4096) :
    proj t w (ix3 p z l) = ∑ k : Fin 128, t (ix2 p k) * w (ix2 k l) := by
  pointwise [proj]

theorem result_at (p : Fin 2) (r : Fin 2048) (l : Fin 4096) :
    result x t w v (ix3 p r l)
      = Ideal.div (centred x (ix3 p r l)) (Ideal.sqrt (variance x (ix3 p r 0) + Ideal.ofBits .f32 0x3727C5AC#32))
          * (1 + proj t w (ix3 p 0 l)) + proj t v (ix3 p 0 l) := by
  pointwise [result]

end Cert.LN.Ref
-- ==== Proof.Equation.lean ====
/-
# The equation: each device's result is its block of the reference's

The eight slots a device adds hold the eight devices' sums, so their sum is the sum over the whole row.
-/
module

public import proofs.«01_k».proof.Proof.Payloads
public import proofs.«01_k».proof.Proof.RefValue
public import Idealize.ShloMosaic.Lib.Layout

@[expose] public section

noncomputable section

namespace Cert.LN

open Cert.KernelIdeal Cert.KernelIdeal.Gen
open Idealize.ShloMosaic Idealize.ShloMosaic.TcCoe

/-- Column `l` of device `d`'s slice is this column of the whole array. -/
def col (d : Fin 8) (l : Fin 512) : Fin 4096 := ⟨d.val * 512 + l.val, by omega⟩

theorem col_split (n : Fin 4096) : col ⟨n.val / 512, by omega⟩ ⟨n.val % 512, by omega⟩ = n :=
  Fin.ext (by show n.val / 512 * 512 + n.val % 512 = n.val; omega)

/-- The columns, device by device. -/
def colEquiv : Fin 8 × Fin 512 ≃ Fin 4096 where
  toFun a := col a.1 a.2
  invFun n := (⟨n.val / 512, by omega⟩, ⟨n.val % 512, by omega⟩)
  left_inv a := Prod.ext (Fin.ext (by show (a.1.val * 512 + a.2.val) / 512 = a.1.val; omega))
    (Fin.ext (by show (a.1.val * 512 + a.2.val) % 512 = a.2.val; omega))
  right_inv n := col_split n

/-- The slots of a device's buffer hold the statistics of all devices, each once. -/
theorem srcD_bijective (c : Dev nD) : Function.Bijective (srcD c) := by revert c; decide

/-- Adding over the slots and each slot's columns is adding over the whole row. -/
theorem sum_slots (c : Dev nD) (f : Fin 4096 → EReal) :
    ∑ k : Fin 8, ∑ j : Fin 512, f (col (srcD c k) j) = ∑ n : Fin 4096, f n := by
  rw [(srcD_bijective c).sum_comp (fun d : Fin 8 => ∑ j : Fin 512, f (col d j)), ← Fintype.sum_prod_type',
    ← colEquiv.sum_comp f]
  rfl

section

variable (m : (ℓ : Loc nD τ sig) → Buf (Elt Ideal) ℓ)
variable (x : FVec Ideal Cert.ReferenceIdeal.S2x2048x4096 .f32) (t : FVec Ideal Cert.ReferenceIdeal.S2x128 .f32)
variable (w v : FVec Ideal Cert.ReferenceIdeal.S128x4096 .f32)

theorem block3_at (c : Fin 8) (p : Fin 2) (g : Fin 2048) (l : Fin 512) (y : (⟨3, ![2, 2048, 4096]⟩ : Shape).Idx → EReal)
    (h : Layout.Tiles ⟨3, ![2, 2048, 512]⟩ ⟨3, ![2, 2048, 4096]⟩ 2 8) :
    Layout.block ⟨3, ![2, 2048, 512]⟩ ⟨3, ![2, 2048, 4096]⟩ 2 8 c y h (ix3 p g l) = y (ix3 p g (col c l)) := by
  refine congrArg y (funext fun a => Fin.ext ?_)
  match a with
  | ⟨0, _⟩ => rfl
  | ⟨1, _⟩ => rfl
  | ⟨2, _⟩ => rfl

theorem block2_at (c : Fin 8) (k : Fin 128) (l : Fin 512) (y : (⟨2, ![128, 4096]⟩ : Shape).Idx → EReal)
    (h : Layout.Tiles ⟨2, ![128, 512]⟩ ⟨2, ![128, 4096]⟩ 1 8) :
    Layout.block ⟨2, ![128, 512]⟩ ⟨2, ![128, 4096]⟩ 1 8 c y h (ix2 k l) = y (ix2 k (col c l)) := by
  refine congrArg y (funext fun a => Fin.ext ?_)
  match a with
  | ⟨0, _⟩ => rfl
  | ⟨1, _⟩ => rfl

variable (h3 : Layout.Tiles ⟨3, ![2, 2048, 512]⟩ ⟨3, ![2, 2048, 4096]⟩ 2 8) (h2 : Layout.Tiles ⟨2, ![128, 512]⟩ ⟨2, ![128, 4096]⟩ 1 8)
variable (hx : ∀ c : Dev nD, xA m c = Layout.block ⟨3, ![2, 2048, 512]⟩ ⟨3, ![2, 2048, 4096]⟩ 2 8 c x h3)
  (hr : ∀ (c : Dev nD) j, ∃ r : ℝ, xA m c j = r)
include hx hr

/-- Every value of the whole array is a real, as every device's are. -/
theorem real_row (p : Fin 2) (g : Fin 2048) : ∃ f : Fin 4096 → ℝ, ∀ n, x (ix3 p g n) = f n := by
  refine ⟨fun n => (hr (⟨n.val / 512, by omega⟩ : Fin 8) (ix3 p g ⟨n.val % 512, by omega⟩)).choose, fun n => ?_⟩
  rw [← (hr (⟨n.val / 512, by omega⟩ : Fin 8) (ix3 p g ⟨n.val % 512, by omega⟩)).choose_spec, hx, block3_at, col_split]

theorem outF_eq (ht : ∀ c : Dev nD, tA m c = t)
    (hw : ∀ c : Dev nD, scA m c = Layout.block ⟨2, ![128, 512]⟩ ⟨2, ![128, 4096]⟩ 1 8 c w h2)
    (hv : ∀ c : Dev nD, shA m c = Layout.block ⟨2, ![128, 512]⟩ ⟨2, ![128, 4096]⟩ 1 8 c v h2) (c : Dev nD) :
    outF m c = Layout.block ⟨3, ![2, 2048, 512]⟩ ⟨3, ![2, 2048, 4096]⟩ 2 8 c (Ref.result x t w v) h3 := by
  funext j
  obtain ⟨p, g, l, rfl⟩ : ∃ p g l, j = ix3 p g l := ⟨j 0, j 1, j 2, (ix3_eta j).symm⟩
  obtain ⟨f, hf⟩ := real_row m x h3 hx hr p g
  rw [outF_at, block3_at, Ref.result_at, Ref.variance_at]
  simp only [Ref.centred_at, Ref.mean_at, Ref.proj_at, hx, ht, hw, hv, block3_at, block2_at]
  rw [sum_slots c fun n => x (ix3 p g n), sum_slots c fun n => x (ix3 p g n) * x (ix3 p g n), outVal]
  simp only [hf]
  rw [normalise]

end

end Cert.LN
-- ==== Proof.Finite.lean ====
/-
# The precondition: every value of `x` is a real
-/
module

public import proofs.«01_k».proof.Pre_finite_KernelIdeal
public import Idealize.ShloMosaic.Lib.Pointwise
public import Idealize.ShloMosaic.Lib.ReduceAll

@[expose] public section

noncomputable section

namespace Cert.LN

open Cert.Pre_finite_KernelIdeal
open Idealize.ShloMosaic

variable [Facts]

/-- A value whose magnitude is below the positive infinity is a real. -/
theorem real_of_abs_lt (e : EReal) (h : max e (-e) < ⊤) : ∃ r : ℝ, e = r := by
  induction e with
  | bot => simp at h
  | top => simp at h
  | coe r => exact ⟨r, rfl⟩

/-- The literal that the magnitudes are compared with. -/
theorem ofBits_inf : Ideal.ofBits .f32 0x7F800000#32 = ⊤ := by
  simp [Ideal.ofBits, Ideal.ieee]

theorem eq_true_of_ofBool {b : Bool} (h : BitVec.ofBool b = 1#1) : b = true := by revert h; cases b <;> decide

/-- Where the precondition holds of a device's slice, its values are reals. -/
theorem real_of_finite (x : FVec Ideal S2x2048x512 .f32) (t : FVec Ideal S2x128 .f32) (w v : FVec Ideal S128x512 .f32)
    (h : fn (F := Ideal) x t w v = fun _ => 1#1) (j : S2x2048x512.Idx) : ∃ r : ℝ, x j = r := by
  have h' := Host.reduce_andi_eq_one _ _ _ _ _ (congrFun h ix0) j (funext fun a => a.elim0)
  pointwise at h'
  rw [ofBits_inf] at h'
  refine real_of_abs_lt _ (of_decide_eq_true ?_)
  exact eq_true_of_ofBool h'

end Cert.LN
-- ==== Proof.PreFacts.lean ====
/-
# The side conditions that the precondition states, at a device's shapes and at the whole array's
-/
module

public import proofs.«01_k».proof.Pre_finite_KernelIdeal
public import proofs.«01_k».proof.Pre_finite_ReferenceIdeal

@[expose] public section

namespace Cert.LN

theorem finite_device : Cert.Pre_finite_KernelIdeal.Facts where
  bcast_S_S2x2048x512 := by decide
  reducesTo_S2x2048x512_S_d0_1_2 := by decide
  h_S_ := by decide

theorem finite_whole : Cert.Pre_finite_ReferenceIdeal.Facts where
  bcast_S_S2x2048x4096 := by decide
  reducesTo_S2x2048x4096_S_d0_1_2 := by decide
  h_S_ := by decide

end Cert.LN
-- ==== Proof.Value.lean ====
/-
# The value claim

The kernel's run leaves on every device its block of the array the reference's run leaves.
-/
module

public import proofs.«01_k».proof.Defs
public import proofs.«01_k».proof.Proof.Equation
public import proofs.«01_k».proof.Proof.Finite
public import proofs.«01_k».proof.Proof.Launch
public import proofs.«01_k».proof.Proof.PreFacts

@[expose] public section

noncomputable section

namespace Cert.LN

open Idealize.ShloMosaic Idealize.ShloMosaic.TcCoe Idealize.SL.Sem

theorem algebraic :
    algebraic_KernelIdeal_ReferenceIdeal_pre_finite_KernelIdeal (hKernelIdeal := Cert.KernelIdeal.Gen.facts)
      (hReferenceIdeal := Cert.ReferenceIdeal.Gen.facts) (hPre_finite_KernelIdeal := finite_device) := by
  intro m g m' g' hpre hag
  have hr : ∀ (c : Dev Cert.KernelIdeal.nD) j, ∃ r : ℝ, xA m c j = r := fun c j =>
    haveI := finite_device
    real_of_finite _ _ _ _ (hpre c) j
  refine ⟨_, (θ_run _ _ _).mono (fun r h c => ⟨((h.1 c).1.trans ?_), (h.1 c).2⟩) (run_main m g),
    (θ_run _ _ _).mono (fun r h => h 0) (Cert.ReferenceIdeal.Value.run m' g')⟩
  exact outF_eq m _ _ _ _ _ _ (fun c => (hag c).1) hr (fun c => (hag c).2.1) (fun c => (hag c).2.2.1) (fun c => (hag c).2.2.2) c

end Cert.LN
-- ==== Proof.lean ====
/-
# The certificate
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.LN.finite_device, Cert.LN.finite_whole,
    Cert.LN.frame_kernel, Cert.LN.frame_ideal, fun m ρ _ => Cert.LN.frame_any m ρ, Cert.LN.frame_reference,
    fun m ρ _ => Cert.LN.frame_reference m ρ trivial, trivial, Cert.LN.algebraic⟩

end Cert.Proof

end
